-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000x256x7x7 : Shape := ⟨4, ![1000, 256, 7, 7]⟩
abbrev S1000x4 : Shape := ⟨2, ![1000, 4]⟩
abbrev S1024x12544 : Shape := ⟨2, ![1024, 12544]⟩
abbrev S1024 : Shape := ⟨1, ![1024]⟩
abbrev S1024x1024 : Shape := ⟨2, ![1024, 1024]⟩
abbrev S91x1024 : Shape := ⟨2, ![91, 1024]⟩
abbrev S91 : Shape := ⟨1, ![91]⟩
abbrev S364x1024 : Shape := ⟨2, ![364, 1024]⟩
abbrev S364 : Shape := ⟨1, ![364]⟩
abbrev S1000x12544 : Shape := ⟨2, ![1000, 12544]⟩
abbrev S_ : Shape := ⟨0, ![]⟩
abbrev S128x1024 : Shape := ⟨2, ![128, 1024]⟩
abbrev S128 : Shape := ⟨1, ![128]⟩
abbrev S1x128 : Shape := ⟨2, ![1, 128]⟩
abbrev S91x4x1024 : Shape := ⟨3, ![91, 4, 1024]⟩
abbrev S128x4x1024 : Shape := ⟨3, ![128, 4, 1024]⟩
abbrev S4x128x1024 : Shape := ⟨3, ![4, 128, 1024]⟩
abbrev S512x1024 : Shape := ⟨2, ![512, 1024]⟩
abbrev S91x4 : Shape := ⟨2, ![91, 4]⟩
abbrev S128x4 : Shape := ⟨2, ![128, 4]⟩
abbrev S4x128 : Shape := ⟨2, ![4, 128]⟩
abbrev S1x512 : Shape := ⟨2, ![1, 512]⟩
abbrev S1x1024 : Shape := ⟨2, ![1, 1024]⟩
abbrev S1000x128 : Shape := ⟨2, ![1000, 128]⟩
abbrev S1000x1792 : Shape := ⟨2, ![1000, 1792]⟩
abbrev S1024x1792 : Shape := ⟨2, ![1024, 1792]⟩
abbrev S1000x1024 : Shape := ⟨2, ![1000, 1024]⟩
abbrev S1000 : Shape := ⟨1, ![1000]⟩
abbrev S1000x1 : Shape := ⟨2, ![1000, 1]⟩
abbrev S1000x512 : Shape := ⟨2, ![1000, 512]⟩
abbrev S128000 : Shape := ⟨1, ![128000]⟩
abbrev S24 : Shape := ⟨1, ![24]⟩
abbrev S24x1 : Shape := ⟨2, ![24, 1]⟩
abbrev S24x4 : Shape := ⟨2, ![24, 4]⟩
abbrev S1024x4 : Shape := ⟨2, ![1024, 4]⟩
abbrev S4x1024 : Shape := ⟨2, ![4, 1024]⟩
abbrev S8x1024 : Shape := ⟨2, ![8, 1024]⟩
abbrev S128x1 : Shape := ⟨2, ![128, 1]⟩
abbrev S1 : Shape := ⟨1, ![1]⟩
abbrev S1x1 : Shape := ⟨2, ![1, 1]⟩
abbrev S1x1000 : Shape := ⟨2, ![1, 1000]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 178
  | .vmem => 22
  | .smem => 0
  | _ => 0

abbrev hbmTy0_0 (i : Nat) : BufTy := match i % 128 with
  | 0 => ⟨S1000x256x7x7, .f32⟩
  | 1 => ⟨S1000x4, .f32⟩
  | 2 => ⟨S1024x12544, .f32⟩
  | 3 => ⟨S1024, .f32⟩
  | 4 => ⟨S1024x1024, .f32⟩
  | 5 => ⟨S1024, .f32⟩
  | 6 => ⟨S91x1024, .f32⟩
  | 7 => ⟨S91, .f32⟩
  | 8 => ⟨S364x1024, .f32⟩
  | 9 => ⟨S364, .f32⟩
  | 10 => ⟨S1000x12544, .f32⟩
  | 11 => ⟨S_, .i32⟩
  | 12 => ⟨S_, .f32⟩
  | 13 => ⟨S128x1024, .f32⟩
  | 14 => ⟨S_, .f32⟩
  | 15 => ⟨S_, .f32⟩
  | 16 => ⟨S128, .f32⟩
  | 17 => ⟨S1x128, .f32⟩
  | 18 => ⟨S91x4x1024, .f32⟩
  | 19 => ⟨S_, .i32⟩
  | 20 => ⟨S_, .f32⟩
  | 21 => ⟨S128x4x1024, .f32⟩
  | 22 => ⟨S4x128x1024, .f32⟩
  | 23 => ⟨S512x1024, .f32⟩
  | 24 => ⟨S91x4, .f32⟩
  | 25 => ⟨S_, .i32⟩
  | 26 => ⟨S_, .f32⟩
  | 27 => ⟨S128x4, .f32⟩
  | 28 => ⟨S4x128, .f32⟩
  | 29 => ⟨S1x512, .f32⟩
  | 30 => ⟨S1x1024, .f32⟩
  | 31 => ⟨S1x1024, .f32⟩
  | 32 => ⟨S1000x128, .f32⟩
  | 33 => ⟨S1000x128, .f32⟩
  | 34 => ⟨S1000x128, .f32⟩
  | 35 => ⟨S1000x128, .f32⟩
  | 36 => ⟨S1000x128, .f32⟩
  | 37 => ⟨S128000, .f32⟩
  | 38 => ⟨S1000, .f32⟩
  | 39 => ⟨S1000, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S1000, .i32⟩
  | 47 => ⟨S1000, .i32⟩
  | 48 => ⟨S_, .i32⟩
  | 49 => ⟨S1000, .i32⟩
  | 50 => ⟨S1000, .i1⟩
  | 51 => ⟨S_, .i32⟩
  | 52 => ⟨S1000, .i32⟩
  | 53 => ⟨S1000, .i1⟩
  | 54 => ⟨S_, .i32⟩
  | 55 => ⟨S_, .i1⟩
  | 56 => ⟨S1000, .i1⟩
  | 57 => ⟨S1000, .i1⟩
  | 58 => ⟨S1000, .i1⟩
  | 59 => ⟨S1000, .i32⟩
  | 60 => ⟨S1000, .i32⟩
  | 61 => ⟨S1000, .i32⟩
  | 62 => ⟨S128000, .f32⟩
  | 63 => ⟨S_, .i32⟩
  | 64 => ⟨S1000, .i32⟩
  | 65 => ⟨S1000, .i1⟩
  | 66 => ⟨S_, .i32⟩
  | 67 => ⟨S1000, .i32⟩
  | 68 => ⟨S1000, .i32⟩
  | 69 => ⟨S1000, .i32⟩
  | 70 => ⟨S1000x1, .i32⟩
  | 71 => ⟨S1000, .f32⟩
  | 72 => ⟨S128000, .f32⟩
  | 73 => ⟨S_, .i32⟩
  | 74 => ⟨S1000, .i32⟩
  | 75 => ⟨S1000, .i1⟩
  | 76 => ⟨S_, .i32⟩
  | 77 => ⟨S1000, .i32⟩
  | 78 => ⟨S1000, .i32⟩
  | 79 => ⟨S1000, .i32⟩
  | 80 => ⟨S1000x1, .i32⟩
  | 81 => ⟨S1000, .f32⟩
  | 82 => ⟨S128000, .f32⟩
  | 83 => ⟨S_, .i32⟩
  | 84 => ⟨S1000, .i32⟩
  | 85 => ⟨S1000, .i1⟩
  | 86 => ⟨S_, .i32⟩
  | 87 => ⟨S1000, .i32⟩
  | 88 => ⟨S1000, .i32⟩
  | 89 => ⟨S1000, .i32⟩
  | 90 => ⟨S1000x1, .i32⟩
  | 91 => ⟨S1000, .f32⟩
  | 92 => ⟨S128000, .f32⟩
  | 93 => ⟨S_, .i32⟩
  | 94 => ⟨S1000, .i32⟩
  | 95 => ⟨S1000, .i1⟩
  | 96 => ⟨S_, .i32⟩
  | 97 => ⟨S1000, .i32⟩
  | 98 => ⟨S1000, .i32⟩
  | 99 => ⟨S1000, .i32⟩
  | 100 => ⟨S1000x1, .i32⟩
  | 101 => ⟨S1000, .f32⟩
  | 102 => ⟨S1000x1, .f32⟩
  | 103 => ⟨S1000x1, .f32⟩
  | 104 => ⟨S1000x1, .f32⟩
  | 105 => ⟨S1000x1, .f32⟩
  | 106 => ⟨S1000x4, .f32⟩
  | 107 => ⟨S_, .f32⟩
  | 108 => ⟨S1000, .f32⟩
  | 109 => ⟨S1000, .i1⟩
  | 110 => ⟨S1000, .f32⟩
  | 111 => ⟨S_, .f32⟩
  | 112 => ⟨S1000, .f32⟩
  | 113 => ⟨S1000, .f32⟩
  | 114 => ⟨S1000x1, .f32⟩
  | 115 => ⟨S1000x4, .f32⟩
  | 116 => ⟨S1000x4, .f32⟩
  | 117 => ⟨S24, .f32⟩
  | 118 => ⟨S_, .f32⟩
  | 119 => ⟨S24, .f32⟩
  | 120 => ⟨S24, .f32⟩
  | 121 => ⟨S_, .f32⟩
  | 122 => ⟨S24, .f32⟩
  | 123 => ⟨S24, .f32⟩
  | 124 => ⟨S24x1, .f32⟩
  | 125 => ⟨S_, .f32⟩
  | 126 => ⟨S24x1, .f32⟩
  | 127 => ⟨S24x1, .f32⟩
  | _ => ⟨S1000x256x7x7, .f32⟩

abbrev hbmTy0_1 (i : Nat) : BufTy := match i % 128 with
  | 0 => ⟨S_, .f32⟩
  | 1 => ⟨S24x1, .f32⟩
  | 2 => ⟨S24x1, .f32⟩
  | 3 => ⟨S24x4, .f32⟩
  | 4 => ⟨S1024x4, .f32⟩
  | 5 => ⟨S4x1024, .f32⟩
  | 6 => ⟨S8x1024, .f32⟩
  | 7 => ⟨S1x1000, .f32⟩
  | 8 => ⟨S1000, .f32⟩
  | 9 => ⟨S_, .f32⟩
  | 10 => ⟨S1000, .f32⟩
  | 11 => ⟨S1000, .i1⟩
  | 12 => ⟨S1000, .i1⟩
  | 13 => ⟨S_, .f32⟩
  | 14 => ⟨S_, .f32⟩
  | 15 => ⟨S1000, .f32⟩
  | 16 => ⟨S1000, .f32⟩
  | 17 => ⟨S100, .f32⟩
  | 18 => ⟨S100, .i32⟩
  | 19 => ⟨S_, .i32⟩
  | 20 => ⟨S100, .i32⟩
  | 21 => ⟨S100, .i1⟩
  | 22 => ⟨S_, .i32⟩
  | 23 => ⟨S100, .i32⟩
  | 24 => ⟨S100, .i32⟩
  | 25 => ⟨S100, .i32⟩
  | 26 => ⟨S100x1, .i32⟩
  | 27 => ⟨S100x4, .f32⟩
  | 28 => ⟨S_, .i32⟩
  | 29 => ⟨S100, .i32⟩
  | 30 => ⟨S100, .i1⟩
  | 31 => ⟨S_, .i32⟩
  | 32 => ⟨S100, .i32⟩
  | 33 => ⟨S100, .i32⟩
  | 34 => ⟨S100, .i32⟩
  | 35 => ⟨S100x1, .i32⟩
  | 36 => ⟨S100, .f32⟩
  | 37 => ⟨S_, .i32⟩
  | 38 => ⟨S100, .i32⟩
  | 39 => ⟨S100, .i1⟩
  | 40 => ⟨S_, .i32⟩
  | 41 => ⟨S100, .i32⟩
  | 42 => ⟨S100, .i32⟩
  | 43 => ⟨S100, .i32⟩
  | 44 => ⟨S100x1, .i32⟩
  | 45 => ⟨S100, .i1⟩
  | 46 => ⟨S100, .f32⟩
  | 47 => ⟨S100, .f32⟩
  | 48 => ⟨S100x1, .f32⟩
  | 49 => ⟨S100x5, .f32⟩
  | _ => ⟨S1000x256x7x7, .f32⟩

abbrev hbmTy (i : Nat) : BufTy := match i / 128 with
  | 0 => hbmTy0_0 i
  | 1 => hbmTy0_1 i
  | _ => ⟨S1000x256x7x7, .f32⟩

abbrev bufTy : (tb : Table) → Fin (tcTables nBuf tb) → BufTy
  | .hbm, ⟨i, _⟩ => hbmTy i
  | .local _ .vmem, ⟨0, _⟩ => ⟨S1000x1792, .f32⟩
  | .local _ .vmem, ⟨1, _⟩ => ⟨S1000x1792, .f32⟩
  | .local _ .vmem, ⟨2, _⟩ => ⟨S1024x1792, .f32⟩
  | .local _ .vmem, ⟨3, _⟩ => ⟨S1024x1792, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S128x1024, .f32⟩
  | .local _ .vmem, ⟨8, _⟩ => ⟨S1x128, .f32⟩
  | .local _ .vmem, ⟨9, _⟩ => ⟨S512x1024, .f32⟩
  | .local _ .vmem, ⟨10, _⟩ => ⟨S1x512, .f32⟩
  | .local _ .vmem, ⟨11, _⟩ => ⟨S1000x4, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x1024, .f32⟩
  | .local _ .vmem, ⟨18, _⟩ => ⟨S1024x4, .f32⟩
  | .local _ .vmem, ⟨19, _⟩ => ⟨S4x1024, .f32⟩
  | .local _ .vmem, ⟨20, _⟩ => ⟨S8x1024, .f32⟩
  | .local _ .vmem, ⟨21, _⟩ => ⟨S1024x1024, .f32⟩
  | _, _ => ⟨S1000x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_cst : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_call2_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_call3_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v14_4 : Ref sig .tc := ⟨.hbm, 36, rfl⟩
abbrev main_v15 : Ref sig .tc := ⟨.hbm, 37, rfl⟩
abbrev main_values : Ref sig .tc := ⟨.hbm, 38, rfl⟩
abbrev main_indices : Ref sig .tc := ⟨.hbm, 39, rfl⟩
abbrev main_c_2 : Ref sig .tc := ⟨.hbm, 40, rfl⟩
abbrev main_call4_v0 : Ref sig .tc := ⟨.hbm, 41, rfl⟩
abbrev main_call4_c : Ref sig .tc := ⟨.hbm, 42, rfl⟩
abbrev main_call4_v1 : Ref sig .tc := ⟨.hbm, 43, rfl⟩
abbrev main_call4_c_0 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_c_1 : Ref sig .tc := ⟨.hbm, 48, rfl⟩
abbrev main_call4_v5 : Ref sig .tc := ⟨.hbm, 49, rfl⟩
abbrev main_call4_v6 : Ref sig .tc := ⟨.hbm, 50, rfl⟩
abbrev main_call4_c_2 : Ref sig .tc := ⟨.hbm, 51, rfl⟩
abbrev main_call4_v7 : Ref sig .tc := ⟨.hbm, 52, rfl⟩
abbrev main_call4_v8 : Ref sig .tc := ⟨.hbm, 53, rfl⟩
abbrev main_call4_c_3 : Ref sig .tc := ⟨.hbm, 54, rfl⟩
abbrev main_call4_v9 : Ref sig .tc := ⟨.hbm, 55, rfl⟩
abbrev main_call4_v10 : Ref sig .tc := ⟨.hbm, 56, rfl⟩
abbrev main_call4_v11 : Ref sig .tc := ⟨.hbm, 57, rfl⟩
abbrev main_call4_v12 : Ref sig .tc := ⟨.hbm, 58, rfl⟩
abbrev main_call4_v13 : Ref sig .tc := ⟨.hbm, 59, rfl⟩
abbrev main_call4_v14 : Ref sig .tc := ⟨.hbm, 60, rfl⟩
abbrev main_v16 : Ref sig .tc := ⟨.hbm, 61, rfl⟩
abbrev main_v17 : Ref sig .tc := ⟨.hbm, 62, rfl⟩
abbrev main_c_3 : Ref sig .tc := ⟨.hbm, 63, rfl⟩
abbrev main_v18 : Ref sig .tc := ⟨.hbm, 64, rfl⟩
abbrev main_v19 : Ref sig .tc := ⟨.hbm, 65, rfl⟩
abbrev main_c_4 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_5 : Ref sig .tc := ⟨.hbm, 73, rfl⟩
abbrev main_v26 : Ref sig .tc := ⟨.hbm, 74, rfl⟩
abbrev main_v27 : Ref sig .tc := ⟨.hbm, 75, rfl⟩
abbrev main_c_6 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_c_7 : Ref sig .tc := ⟨.hbm, 83, rfl⟩
abbrev main_v34 : Ref sig .tc := ⟨.hbm, 84, rfl⟩
abbrev main_v35 : Ref sig .tc := ⟨.hbm, 85, rfl⟩
abbrev main_c_8 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_c_9 : Ref sig .tc := ⟨.hbm, 93, rfl⟩
abbrev main_v42 : Ref sig .tc := ⟨.hbm, 94, rfl⟩
abbrev main_v43 : Ref sig .tc := ⟨.hbm, 95, rfl⟩
abbrev main_c_10 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_cst_11 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_12 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_13 : Ref sig .tc := ⟨.hbm, 118, rfl⟩
abbrev main_v63 : Ref sig .tc := ⟨.hbm, 119, rfl⟩
abbrev main_v64 : Ref sig .tc := ⟨.hbm, 120, rfl⟩
abbrev main_cst_14 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_15 : Ref sig .tc := ⟨.hbm, 125, rfl⟩
abbrev main_v68 : Ref sig .tc := ⟨.hbm, 126, rfl⟩
abbrev main_v69 : Ref sig .tc := ⟨.hbm, 127, rfl⟩
abbrev main_cst_16 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_17 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_18 : Ref sig .tc := ⟨.hbm, 141, rfl⟩
abbrev main_call5_v0 : Ref sig .tc := ⟨.hbm, 142, rfl⟩
abbrev main_call5_v1 : Ref sig .tc := ⟨.hbm, 143, rfl⟩
abbrev main_v81 : Ref sig .tc := ⟨.hbm, 144, rfl⟩
abbrev main_values_19 : Ref sig .tc := ⟨.hbm, 145, rfl⟩
abbrev main_indices_20 : Ref sig .tc := ⟨.hbm, 146, rfl⟩
abbrev main_c_21 : Ref sig .tc := ⟨.hbm, 147, rfl⟩
abbrev main_v82 : Ref sig .tc := ⟨.hbm, 148, rfl⟩
abbrev main_v83 : Ref sig .tc := ⟨.hbm, 149, rfl⟩
abbrev main_c_22 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_c_23 : Ref sig .tc := ⟨.hbm, 156, rfl⟩
abbrev main_v89 : Ref sig .tc := ⟨.hbm, 157, rfl⟩
abbrev main_v90 : Ref sig .tc := ⟨.hbm, 158, rfl⟩
abbrev main_c_24 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_c_25 : Ref sig .tc := ⟨.hbm, 165, rfl⟩
abbrev main_v96 : Ref sig .tc := ⟨.hbm, 166, rfl⟩
abbrev main_v97 : Ref sig .tc := ⟨.hbm, 167, rfl⟩
abbrev main_c_26 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc1_sem0_0 : DmaSem sig := 17
abbrev cc1_sem1_0 : DmaSem sig := 18
abbrev cc1_sem2_0 : DmaSem sig := 19

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v12 : BitVec 1 := Scalar.cmpi .eq arg0 c6_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1000x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1000x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1000x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1000x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1000x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1000x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := .none

@[reducible] def k1_t1_loop : Scf.Loop 32 :=
  let c0_i32_141 : BitVec 32 := 0#32
  let c1000_i32 : BitVec 32 := 1000#32
  let v462 : BitVec 32 := Scalar.addi c0_i32_141 c1000_i32
  let c1_i32 : BitVec 32 := 1#32
  ⟨c0_i32_141, v462, c1_i32⟩
def k1_off1 (k1_t1 : Fin k1_t1_loop.trips) : Fin 2 → Nat :=
  let c0_i32_141 : BitVec 32 := 0#32
  let c1_i32 : BitVec 32 := 1#32
  let arg4 : BitVec 32 := Scf.iv c0_i32_141 c1_i32 k1_t1
  let v467 : Index := Scalar.indexCast arg4
  let c0_145 : Index := 0#32
  ![v467.toNat, 0]
abbrev stage1_0 : Fin 1 → Memref sig .tc .vmem S1024x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1000x256x7x7 : Shape := ⟨4, ![1000, 256, 7, 7]⟩
abbrev S1000x4 : Shape := ⟨2, ![1000, 4]⟩
abbrev S1024x12544 : Shape := ⟨2, ![1024, 12544]⟩
abbrev S1024 : Shape := ⟨1, ![1024]⟩
abbrev S1024x1024 : Shape := ⟨2, ![1024, 1024]⟩
abbrev S91x1024 : Shape := ⟨2, ![91, 1024]⟩
abbrev S91 : Shape := ⟨1, ![91]⟩
abbrev S364x1024 : Shape := ⟨2, ![364, 1024]⟩
abbrev S364 : Shape := ⟨1, ![364]⟩
abbrev S1000x12544 : Shape := ⟨2, ![1000, 12544]⟩
abbrev S12544x1024 : Shape := ⟨2, ![12544, 1024]⟩
abbrev S1000x1024 : Shape := ⟨2, ![1000, 1024]⟩
abbrev S1x1024 : Shape := ⟨2, ![1, 1024]⟩
abbrev S_ : Shape := ⟨0, ![]⟩
abbrev S1024x91 : Shape := ⟨2, ![1024, 91]⟩
abbrev S1000x91 : Shape := ⟨2, ![1000, 91]⟩
abbrev S1x91 : Shape := ⟨2, ![1, 91]⟩
abbrev S1024x364 : Shape := ⟨2, ![1024, 364]⟩
abbrev S1000x364 : Shape := ⟨2, ![1000, 364]⟩
abbrev S1x364 : Shape := ⟨2, ![1, 364]⟩
abbrev S1000x91x4 : Shape := ⟨3, ![1000, 91, 4]⟩
abbrev S1000 : Shape := ⟨1, ![1000]⟩
abbrev S1000x1 : Shape := ⟨2, ![1000, 1]⟩
abbrev S1000x91x1 : Shape := ⟨3, ![1000, 91, 1]⟩
abbrev S1000x90 : Shape := ⟨2, ![1000, 90]⟩
abbrev S1000x90x4 : Shape := ⟨3, ![1000, 90, 4]⟩
abbrev S90000 : Shape := ⟨1, ![90000]⟩
abbrev S90000x4 : Shape := ⟨2, ![90000, 4]⟩
abbrev S90 : Shape := ⟨1, ![90]⟩
abbrev S1x90 : Shape := ⟨2, ![1, 90]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 374
  | .vmem => 0
  | .smem => 0
  | _ => 0

abbrev hbmTy0_0 (i : Nat) : BufTy := match i % 128 with
  | 0 => ⟨S1000x256x7x7, .f32⟩
  | 1 => ⟨S1000x4, .f32⟩
  | 2 => ⟨S1024x12544, .f32⟩
  | 3 => ⟨S1024, .f32⟩
  | 4 => ⟨S1024x1024, .f32⟩
  | 5 => ⟨S1024, .f32⟩
  | 6 => ⟨S91x1024, .f32⟩
  | 7 => ⟨S91, .f32⟩
  | 8 => ⟨S364x1024, .f32⟩
  | 9 => ⟨S364, .f32⟩
  | 10 => ⟨S1000x12544, .f32⟩
  | 11 => ⟨S12544x1024, .f32⟩
  | 12 => ⟨S1000x1024, .f32⟩
  | 13 => ⟨S1x1024, .f32⟩
  | 14 => ⟨S1000x1024, .f32⟩
  | 15 => ⟨S1000x1024, .f32⟩
  | 16 => ⟨S_, .f32⟩
  | 17 => ⟨S1000x1024, .f32⟩
  | 18 => ⟨S1000x1024, .f32⟩
  | 19 => ⟨S1024x1024, .f32⟩
  | 20 => ⟨S1000x1024, .f32⟩
  | 21 => ⟨S1x1024, .f32⟩
  | 22 => ⟨S1000x1024, .f32⟩
  | 23 => ⟨S1000x1024, .f32⟩
  | 24 => ⟨S_, .f32⟩
  | 25 => ⟨S1000x1024, .f32⟩
  | 26 => ⟨S1000x1024, .f32⟩
  | 27 => ⟨S1024x91, .f32⟩
  | 28 => ⟨S1000x91, .f32⟩
  | 29 => ⟨S1x91, .f32⟩
  | 30 => ⟨S1000x91, .f32⟩
  | 31 => ⟨S1000x91, .f32⟩
  | 32 => ⟨S1024x364, .f32⟩
  | 33 => ⟨S1000x364, .f32⟩
  | 34 => ⟨S1x364, .f32⟩
  | 35 => ⟨S1000x364, .f32⟩
  | 36 => ⟨S1000x364, .f32⟩
  | 37 => ⟨S1000x91x4, .f32⟩
  | 38 => ⟨S_, .f32⟩
  | 39 => ⟨S1000, .f32⟩
  | 40 => ⟨S_, .f32⟩
  | 41 => ⟨S1000, .f32⟩
  | 42 => ⟨S1000, .f32⟩
  | 43 => ⟨S1000x1, .f32⟩
  | 44 => ⟨S1000x91, .f32⟩
  | 45 => ⟨S1000x91, .f32⟩
  | 46 => ⟨S1000x91, .f32⟩
  | 47 => ⟨S_, .f32⟩
  | 48 => ⟨S1000, .f32⟩
  | 49 => ⟨S1000x1, .f32⟩
  | 50 => ⟨S1000x91, .f32⟩
  | 51 => ⟨S1000x91, .f32⟩
  | 52 => ⟨S1000x1, .f32⟩
  | 53 => ⟨S1000, .f32⟩
  | 54 => ⟨S1000x1, .f32⟩
  | 55 => ⟨S1000, .f32⟩
  | 56 => ⟨S1000, .f32⟩
  | 57 => ⟨S1000x1, .f32⟩
  | 58 => ⟨S1000, .f32⟩
  | 59 => ⟨S1000x1, .f32⟩
  | 60 => ⟨S1000, .f32⟩
  | 61 => ⟨S1000, .f32⟩
  | 62 => ⟨S1000x1, .f32⟩
  | 63 => ⟨S1000, .f32⟩
  | 64 => ⟨S_, .f32⟩
  | 65 => ⟨S1000, .f32⟩
  | 66 => ⟨S1000, .f32⟩
  | 67 => ⟨S1000, .f32⟩
  | 68 => ⟨S1000x1, .f32⟩
  | 69 => ⟨S1000, .f32⟩
  | 70 => ⟨S_, .f32⟩
  | 71 => ⟨S1000, .f32⟩
  | 72 => ⟨S1000, .f32⟩
  | 73 => ⟨S1000, .f32⟩
  | 74 => ⟨S1000x91x1, .f32⟩
  | 75 => ⟨S1000x91, .f32⟩
  | 76 => ⟨S_, .f32⟩
  | 77 => ⟨S1000x91, .f32⟩
  | 78 => ⟨S1000x91, .f32⟩
  | 79 => ⟨S1000x91x1, .f32⟩
  | 80 => ⟨S1000x91, .f32⟩
  | 81 => ⟨S_, .f32⟩
  | 82 => ⟨S1000x91, .f32⟩
  | 83 => ⟨S1000x91, .f32⟩
  | 84 => ⟨S1000x91x1, .f32⟩
  | 85 => ⟨S1000x91, .f32⟩
  | 86 => ⟨S_, .f32⟩
  | 87 => ⟨S1000x91, .f32⟩
  | 88 => ⟨S1000x91, .f32⟩
  | 89 => ⟨S_, .f32⟩
  | 90 => ⟨S1000x91, .f32⟩
  | 91 => ⟨S1000x91, .f32⟩
  | 92 => ⟨S1000x91x1, .f32⟩
  | 93 => ⟨S1000x91, .f32⟩
  | 94 => ⟨S_, .f32⟩
  | 95 => ⟨S1000x91, .f32⟩
  | 96 => ⟨S1000x91, .f32⟩
  | 97 => ⟨S_, .f32⟩
  | 98 => ⟨S1000x91, .f32⟩
  | 99 => ⟨S1000x91, .f32⟩
  | 100 => ⟨S1000x1, .f32⟩
  | 101 => ⟨S1000x91, .f32⟩
  | 102 => ⟨S1000x91, .f32⟩
  | 103 => ⟨S1000x1, .f32⟩
  | 104 => ⟨S1000x91, .f32⟩
  | 105 => ⟨S1000x91, .f32⟩
  | 106 => ⟨S1000x1, .f32⟩
  | 107 => ⟨S1000x91, .f32⟩
  | 108 => ⟨S1000x91, .f32⟩
  | 109 => ⟨S1000x1, .f32⟩
  | 110 => ⟨S1000x91, .f32⟩
  | 111 => ⟨S1000x91, .f32⟩
  | 112 => ⟨S1000x91, .f32⟩
  | 113 => ⟨S1000x1, .f32⟩
  | 114 => ⟨S1000x91, .f32⟩
  | 115 => ⟨S1000x91, .f32⟩
  | 116 => ⟨S1000x91, .f32⟩
  | 117 => ⟨S1000x1, .f32⟩
  | 118 => ⟨S1000x91, .f32⟩
  | 119 => ⟨S1000x91, .f32⟩
  | 120 => ⟨S_, .f32⟩
  | 121 => ⟨S1000x91, .f32⟩
  | 122 => ⟨S1000x91, .f32⟩
  | 123 => ⟨S1000x91, .f32⟩
  | 124 => ⟨S_, .f32⟩
  | 125 => ⟨S_, .f32⟩
  | 126 => ⟨S_, .f32⟩
  | 127 => ⟨S1000x91, .f32⟩
  | _ => ⟨S1000x256x7x7, .f32⟩

abbrev hbmTy0_1 (i : Nat) : BufTy := match i % 128 with
  | 0 => ⟨S1000x91, .f32⟩
  | 1 => ⟨S_, .f32⟩
  | 2 => ⟨S1000x91, .f32⟩
  | 3 => ⟨S1000x91, .f32⟩
  | 4 => ⟨S_, .f32⟩
  | 5 => ⟨S1000x91, .f32⟩
  | 6 => ⟨S1000x91, .f32⟩
  | 7 => ⟨S1000x91, .f32⟩
  | 8 => ⟨S_, .f32⟩
  | 9 => ⟨S_, .f32⟩
  | 10 => ⟨S_, .f32⟩
  | 11 => ⟨S1000x91, .f32⟩
  | 12 => ⟨S1000x91, .f32⟩
  | 13 => ⟨S_, .f32⟩
  | 14 => ⟨S1000x91, .f32⟩
  | 15 => ⟨S1000x91, .f32⟩
  | 16 => ⟨S_, .f32⟩
  | 17 => ⟨S1000x91, .f32⟩
  | 18 => ⟨S1000x91, .f32⟩
  | 19 => ⟨S1000x91, .f32⟩
  | 20 => ⟨S_, .f32⟩
  | 21 => ⟨S_, .f32⟩
  | 22 => ⟨S_, .f32⟩
  | 23 => ⟨S1000x91, .f32⟩
  | 24 => ⟨S1000x91, .f32⟩
  | 25 => ⟨S_, .f32⟩
  | 26 => ⟨S1000x91, .f32⟩
  | 27 => ⟨S1000x91, .f32⟩
  | 28 => ⟨S_, .f32⟩
  | 29 => ⟨S1000x91, .f32⟩
  | 30 => ⟨S1000x91, .f32⟩
  | 31 => ⟨S1000x91, .f32⟩
  | 32 => ⟨S_, .f32⟩
  | 33 => ⟨S_, .f32⟩
  | 34 => ⟨S_, .f32⟩
  | 35 => ⟨S1000x91, .f32⟩
  | 36 => ⟨S1000x91, .f32⟩
  | 37 => ⟨S_, .f32⟩
  | 38 => ⟨S1000x91, .f32⟩
  | 39 => ⟨S1000x91, .f32⟩
  | 40 => ⟨S1000x91x1, .f32⟩
  | 41 => ⟨S1000x91x1, .f32⟩
  | 42 => ⟨S1000x91x1, .f32⟩
  | 43 => ⟨S1000x91x1, .f32⟩
  | 44 => ⟨S1000x91x4, .f32⟩
  | 45 => ⟨S1000x90, .f32⟩
  | 46 => ⟨S1000x90x4, .f32⟩
  | 47 => ⟨S90000, .f32⟩
  | 48 => ⟨S90000x4, .f32⟩
  | 49 => ⟨S90, .i32⟩
  | 50 => ⟨S_, .i32⟩
  | 51 => ⟨S90, .i32⟩
  | 52 => ⟨S90, .i32⟩
  | 53 => ⟨S1x90, .i32⟩
  | 54 => ⟨S1000x90, .i32⟩
  | 55 => ⟨S90000, .i32⟩
  | 56 => ⟨S_, .f32⟩
  | 57 => ⟨S90000, .f32⟩
  | 58 => ⟨S90000, .i1⟩
  | 59 => ⟨S_, .f32⟩
  | 60 => ⟨S_, .f32⟩
  | 61 => ⟨S90000, .f32⟩
  | 62 => ⟨S90000, .f32⟩
  | 63 => ⟨S1000, .f32⟩
  | 64 => ⟨S1000, .i32⟩
  | 65 => ⟨S_, .i32⟩
  | 66 => ⟨S1000, .i32⟩
  | 67 => ⟨S1000, .i1⟩
  | 68 => ⟨S_, .i32⟩
  | 69 => ⟨S1000, .i32⟩
  | 70 => ⟨S1000, .i32⟩
  | 71 => ⟨S1000, .i32⟩
  | 72 => ⟨S1000x1, .i32⟩
  | 73 => ⟨S1000x4, .f32⟩
  | 74 => ⟨S_, .i32⟩
  | 75 => ⟨S1000, .i32⟩
  | 76 => ⟨S1000, .i1⟩
  | 77 => ⟨S_, .i32⟩
  | 78 => ⟨S1000, .i32⟩
  | 79 => ⟨S1000, .i32⟩
  | 80 => ⟨S1000, .i32⟩
  | 81 => ⟨S1000x1, .i32⟩
  | 82 => ⟨S1000, .f32⟩
  | 83 => ⟨S_, .i32⟩
  | 84 => ⟨S1000, .i32⟩
  | 85 => ⟨S1000, .i1⟩
  | 86 => ⟨S_, .i32⟩
  | 87 => ⟨S1000, .i32⟩
  | 88 => ⟨S1000, .i32⟩
  | 89 => ⟨S1000, .i32⟩
  | 90 => ⟨S1000x1, .i32⟩
  | 91 => ⟨S1000, .i32⟩
  | 92 => ⟨S_, .f32⟩
  | 93 => ⟨S1000, .f32⟩
  | 94 => ⟨S1000, .i1⟩
  | 95 => ⟨S1000, .f32⟩
  | 96 => ⟨S_, .f32⟩
  | 97 => ⟨S1000, .f32⟩
  | 98 => ⟨S1000, .f32⟩
  | 99 => ⟨S1000x1, .f32⟩
  | 100 => ⟨S1000x4, .f32⟩
  | 101 => ⟨S1000x4, .f32⟩
  | 102 => ⟨S1000x1, .f32⟩
  | 103 => ⟨S1000, .f32⟩
  | 104 => ⟨S1000x1, .f32⟩
  | 105 => ⟨S1000, .f32⟩
  | 106 => ⟨S1000, .f32⟩
  | 107 => ⟨S1000x1, .f32⟩
  | 108 => ⟨S1000, .f32⟩
  | 109 => ⟨S1000x1, .f32⟩
  | 110 => ⟨S1000, .f32⟩
  | 111 => ⟨S1000, .f32⟩
  | 112 => ⟨S1000, .f32⟩
  | 113 => ⟨S1000x1, .f32⟩
  | 114 => ⟨S1000, .f32⟩
  | 115 => ⟨S1000x1, .f32⟩
  | 116 => ⟨S1000, .f32⟩
  | 117 => ⟨S1000, .f32⟩
  | 118 => ⟨S1000x1, .f32⟩
  | 119 => ⟨S1000, .f32⟩
  | 120 => ⟨S1000x1, .f32⟩
  | 121 => ⟨S1000, .f32⟩
  | 122 => ⟨S1000, .f32⟩
  | 123 => ⟨S1000, .f32⟩
  | 124 => ⟨S1000x2, .f32⟩
  | 125 => ⟨S1000x1x2, .f32⟩
  | 126 => ⟨S1000x2, .f32⟩
  | 127 => ⟨S1x1000x2, .f32⟩
  | _ => ⟨S1000x256x7x7, .f32⟩

abbrev hbmTy0_2 (i : Nat) : BufTy := match i % 128 with
  | 0 => ⟨S1000x1000x2, .f32⟩
  | 1 => ⟨S1000x1000x2, .f32⟩
  | 2 => ⟨S1000x1000x2, .f32⟩
  | 3 => ⟨S1000x2, .f32⟩
  | 4 => ⟨S1000x1x2, .f32⟩
  | 5 => ⟨S1000x2, .f32⟩
  | 6 => ⟨S1x1000x2, .f32⟩
  | 7 => ⟨S1000x1000x2, .f32⟩
  | 8 => ⟨S1000x1000x2, .f32⟩
  | 9 => ⟨S1000x1000x2, .f32⟩
  | 10 => ⟨S1000x1000x2, .f32⟩
  | 11 => ⟨S_, .f32⟩
  | 12 => ⟨S1000x1000x2, .f32⟩
  | 13 => ⟨S1000x1000x2, .f32⟩
  | 14 => ⟨S1000x1000x1, .f32⟩
  | 15 => ⟨S1000x1000, .f32⟩
  | 16 => ⟨S1000x1000x1, .f32⟩
  | 17 => ⟨S1000x1000, .f32⟩
  | 18 => ⟨S1000x1000, .f32⟩
  | 19 => ⟨S1000x1, .f32⟩
  | 20 => ⟨S1x1000, .f32⟩
  | 21 => ⟨S1000x1000, .f32⟩
  | 22 => ⟨S1000x1000, .f32⟩
  | 23 => ⟨S1000x1000, .f32⟩
  | 24 => ⟨S1000x1000, .f32⟩
  | 25 => ⟨S_, .f32⟩
  | 26 => ⟨S1000x1000, .f32⟩
  | 27 => ⟨S1000x1000, .f32⟩
  | 28 => ⟨S1000x1000, .f32⟩
  | 29 => ⟨S1000, .i32⟩
  | 30 => ⟨S_, .i1⟩
  | 31 => ⟨S1000, .i1⟩
  | 32 => ⟨S_, .i32⟩
  | 33 => ⟨S_, .i32⟩
  | 34 => ⟨S1000x1000, .f32⟩
  | 35 => ⟨S1000, .i32⟩
  | 36 => ⟨S_, .i32⟩
  | 37 => ⟨S_, .i32⟩
  | 38 => ⟨S1000, .i1⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S1x1000, .f32⟩
  | 58 => ⟨S1000, .f32⟩
  | 59 => ⟨S_, .f32⟩
  | 60 => ⟨S1000, .f32⟩
  | 61 => ⟨S1000, .i1⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1, .i1⟩
  | 69 => ⟨S_, .i1⟩
  | 70 => ⟨S1000, .i1⟩
  | 71 => ⟨S1000, .i1⟩
  | 72 => ⟨S_, .i32⟩
  | 73 => ⟨S1000, .i32⟩
  | 74 => ⟨S1000, .i1⟩
  | 75 => ⟨S1000, .i1⟩
  | 76 => ⟨S1000, .i1⟩
  | 77 => ⟨S1000, .i1⟩
  | 78 => ⟨S_, .i32⟩
  | 79 => ⟨S_, .i32⟩
  | 80 => ⟨S1000, .i1⟩
  | 81 => ⟨S_, .f32⟩
  | 82 => ⟨S_, .f32⟩
  | 83 => ⟨S1000, .f32⟩
  | 84 => ⟨S1000, .f32⟩
  | 85 => ⟨S100, .f32⟩
  | 86 => ⟨S100, .i32⟩
  | 87 => ⟨S_, .i32⟩
  | 88 => ⟨S100, .i32⟩
  | 89 => ⟨S100, .i1⟩
  | 90 => ⟨S_, .i32⟩
  | 91 => ⟨S100, .i32⟩
  | 92 => ⟨S100, .i32⟩
  | 93 => ⟨S100, .i32⟩
  | 94 => ⟨S100x1, .i32⟩
  | 95 => ⟨S100x4, .f32⟩
  | 96 => ⟨S_, .i32⟩
  | 97 => ⟨S100, .i32⟩
  | 98 => ⟨S100, .i1⟩
  | 99 => ⟨S_, .i32⟩
  | 100 => ⟨S100, .i32⟩
  | 101 => ⟨S100, .i32⟩
  | 102 => ⟨S100, .i32⟩
  | 103 => ⟨S100x1, .i32⟩
  | 104 => ⟨S100, .f32⟩
  | 105 => ⟨S_, .i32⟩
  | 106 => ⟨S100, .i32⟩
  | 107 => ⟨S100, .i1⟩
  | 108 => ⟨S_, .i32⟩
  | 109 => ⟨S100, .i32⟩
  | 110 => ⟨S100, .i32⟩
  | 111 => ⟨S100, .i32⟩
  | 112 => ⟨S100x1, .i32⟩
  | 113 => ⟨S100, .i1⟩
  | 114 => ⟨S100, .f32⟩
  | 115 => ⟨S100, .f32⟩
  | 116 => ⟨S100x1, .f32⟩
  | 117 => ⟨S100x5, .f32⟩
  | _ => ⟨S1000x256x7x7, .f32⟩

abbrev hbmTy (i : Nat) : BufTy := match i / 128 with
  | 0 => hbmTy0_0 i
  | 1 => hbmTy0_1 i
  | 2 => hbmTy0_2 i
  | _ => ⟨S1000x256x7x7, .f32⟩

abbrev bufTy : (tb : Table) → Fin (tcTables nBuf tb) → BufTy
  | .hbm, ⟨i, _⟩ => hbmTy i
  | _, _ => ⟨S1000x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_2 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_8 : Ref sig .tc := ⟨.hbm, 94, rfl⟩
abbrev main_v71 : Ref sig .tc := ⟨.hbm, 95, rfl⟩
abbrev main_v72 : Ref sig .tc := ⟨.hbm, 96, rfl⟩
abbrev main_cst_9 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_10 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_11 : Ref sig .tc := ⟨.hbm, 124, rfl⟩
abbrev main_cst_12 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v98 : Ref sig .tc := ⟨.hbm, 131, rfl⟩
abbrev main_cst_13 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_14 : Ref sig .tc := ⟨.hbm, 136, rfl⟩
abbrev main_cst_15 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v102 : Ref sig .tc := ⟨.hbm, 143, rfl⟩
abbrev main_cst_16 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_17 : Ref sig .tc := ⟨.hbm, 148, rfl⟩
abbrev main_cst_18 : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_v106 : Ref sig .tc := ⟨.hbm, 155, rfl⟩
abbrev main_cst_19 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_20 : Ref sig .tc := ⟨.hbm, 160, rfl⟩
abbrev main_cst_21 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_c : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_22 : Ref sig .tc := ⟨.hbm, 184, rfl⟩
abbrev main_v126 : Ref sig .tc := ⟨.hbm, 185, rfl⟩
abbrev main_v127 : Ref sig .tc := ⟨.hbm, 186, rfl⟩
abbrev main_cst_23 : Ref sig .tc := ⟨.hbm, 187, rfl⟩
abbrev main_call6_v0 : Ref sig .tc := ⟨.hbm, 188, rfl⟩
abbrev main_call6_v1 : Ref sig .tc := ⟨.hbm, 189, rfl⟩
abbrev main_v128 : Ref sig .tc := ⟨.hbm, 190, rfl⟩
abbrev main_values : Ref sig .tc := ⟨.hbm, 191, rfl⟩
abbrev main_indices : Ref sig .tc := ⟨.hbm, 192, rfl⟩
abbrev main_c_24 : Ref sig .tc := ⟨.hbm, 193, rfl⟩
abbrev main_v129 : Ref sig .tc := ⟨.hbm, 194, rfl⟩
abbrev main_v130 : Ref sig .tc := ⟨.hbm, 195, rfl⟩
abbrev main_c_25 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_c_26 : Ref sig .tc := ⟨.hbm, 202, rfl⟩
abbrev main_v136 : Ref sig .tc := ⟨.hbm, 203, rfl⟩
abbrev main_v137 : Ref sig .tc := ⟨.hbm, 204, rfl⟩
abbrev main_c_27 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_c_28 : Ref sig .tc := ⟨.hbm, 211, rfl⟩
abbrev main_v143 : Ref sig .tc := ⟨.hbm, 212, rfl⟩
abbrev main_v144 : Ref sig .tc := ⟨.hbm, 213, rfl⟩
abbrev main_c_29 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_30 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_31 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_cst_32 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_cst_33 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_c_34 : Ref sig .tc := ⟨.hbm, 286, rfl⟩
abbrev main_v212 : Ref sig .tc := ⟨.hbm, 287, rfl⟩
abbrev main_c_35 : Ref sig .tc := ⟨.hbm, 288, rfl⟩
abbrev main_c_36 : Ref sig .tc := ⟨.hbm, 289, rfl⟩
abbrev main_v213_0 : Ref sig .tc := ⟨.hbm, 290, rfl⟩
abbrev main_v213_1 : Ref sig .tc := ⟨.hbm, 291, rfl⟩
abbrev main_v213_2 : Ref sig .tc := ⟨.hbm, 292, rfl⟩
abbrev main_v213_3 : Ref sig .tc := ⟨.hbm, 293, rfl⟩
abbrev main_v213_4 : Ref sig .tc := ⟨.hbm, 294, rfl⟩
abbrev main_while0c_c_50 : Ref sig .tc := ⟨.hbm, 295, rfl⟩
abbrev main_while0c_v241 : Ref sig .tc := ⟨.hbm, 296, rfl⟩
abbrev main_while0b_c_50 : Ref sig .tc := ⟨.hbm, 297, rfl⟩
abbrev main_while0b_v241 : Ref sig .tc := ⟨.hbm, 298, rfl⟩
abbrev main_while0b_v242 : Ref sig .tc := ⟨.hbm, 299, rfl⟩
abbrev main_while0b_c_51 : Ref sig .tc := ⟨.hbm, 300, rfl⟩
abbrev main_while0b_v243 : Ref sig .tc := ⟨.hbm, 301, rfl⟩
abbrev main_while0b_c_52 : Ref sig .tc := ⟨.hbm, 302, rfl⟩
abbrev main_while0b_v244 : Ref sig .tc := ⟨.hbm, 303, rfl⟩
abbrev main_while0b_v245 : Ref sig .tc := ⟨.hbm, 304, rfl⟩
abbrev main_while0b_c_53 : Ref sig .tc := ⟨.hbm, 305, rfl⟩
abbrev main_while0b_c_54 : Ref sig .tc := ⟨.hbm, 306, rfl⟩
abbrev main_while0b_v246 : Ref sig .tc := ⟨.hbm, 307, rfl⟩
abbrev main_while0b_c_55 : Ref sig .tc := ⟨.hbm, 308, rfl⟩
abbrev main_while0b_c_56 : Ref sig .tc := ⟨.hbm, 309, rfl⟩
abbrev main_while0b_v247 : Ref sig .tc := ⟨.hbm, 310, rfl⟩
abbrev main_while0b_c_57 : Ref sig .tc := ⟨.hbm, 311, rfl⟩
abbrev main_while0b_v248 : Ref sig .tc := ⟨.hbm, 312, rfl⟩
abbrev main_while0b_v249 : Ref sig .tc := ⟨.hbm, 313, rfl⟩
abbrev main_while0b_v250 : Ref sig .tc := ⟨.hbm, 314, rfl⟩
abbrev main_while0b_cst_58 : Ref sig .tc := ⟨.hbm, 315, rfl⟩
abbrev main_while0b_v251 : Ref sig .tc := ⟨.hbm, 316, rfl⟩
abbrev main_while0b_v252 : Ref sig .tc := ⟨.hbm, 317, rfl⟩
abbrev main_while0b_c_59 : Ref sig .tc := ⟨.hbm, 318, rfl⟩
abbrev main_while0b_v253 : Ref sig .tc := ⟨.hbm, 319, rfl⟩
abbrev main_while0b_v254 : Ref sig .tc := ⟨.hbm, 320, rfl⟩
abbrev main_while0b_c_60 : Ref sig .tc := ⟨.hbm, 321, rfl⟩
abbrev main_while0b_v255 : Ref sig .tc := ⟨.hbm, 322, rfl⟩
abbrev main_while0b_v256 : Ref sig .tc := ⟨.hbm, 323, rfl⟩
abbrev main_while0b_v257 : Ref sig .tc := ⟨.hbm, 324, rfl⟩
abbrev main_while0b_v258 : Ref sig .tc := ⟨.hbm, 325, rfl⟩
abbrev main_while0b_v259 : Ref sig .tc := ⟨.hbm, 326, rfl⟩
abbrev main_while0b_v260 : Ref sig .tc := ⟨.hbm, 327, rfl⟩
abbrev main_while0b_v261 : Ref sig .tc := ⟨.hbm, 328, rfl⟩
abbrev main_while0b_v262 : Ref sig .tc := ⟨.hbm, 329, rfl⟩
abbrev main_while0b_v263 : Ref sig .tc := ⟨.hbm, 330, rfl⟩
abbrev main_while0b_v264 : Ref sig .tc := ⟨.hbm, 331, rfl⟩
abbrev main_while0b_v265 : Ref sig .tc := ⟨.hbm, 332, rfl⟩
abbrev main_while0b_v266 : Ref sig .tc := ⟨.hbm, 333, rfl⟩
abbrev main_while0b_c_61 : Ref sig .tc := ⟨.hbm, 334, rfl⟩
abbrev main_while0b_v267 : Ref sig .tc := ⟨.hbm, 335, rfl⟩
abbrev main_v214 : Ref sig .tc := ⟨.hbm, 336, rfl⟩
abbrev main_cst_37 : Ref sig .tc := ⟨.hbm, 337, rfl⟩
abbrev main_call7_v0 : Ref sig .tc := ⟨.hbm, 338, rfl⟩
abbrev main_call7_v1 : Ref sig .tc := ⟨.hbm, 339, rfl⟩
abbrev main_v215 : Ref sig .tc := ⟨.hbm, 340, rfl⟩
abbrev main_values_38 : Ref sig .tc := ⟨.hbm, 341, rfl⟩
abbrev main_indices_39 : Ref sig .tc := ⟨.hbm, 342, rfl⟩
abbrev main_c_40 : Ref sig .tc := ⟨.hbm, 343, rfl⟩
abbrev main_v216 : Ref sig .tc := ⟨.hbm, 344, rfl⟩
abbrev main_v217 : Ref sig .tc := ⟨.hbm, 345, rfl⟩
abbrev main_c_41 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_c_42 : Ref sig .tc := ⟨.hbm, 352, rfl⟩
abbrev main_v223 : Ref sig .tc := ⟨.hbm, 353, rfl⟩
abbrev main_v224 : Ref sig .tc := ⟨.hbm, 354, rfl⟩
abbrev main_c_43 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_c_44 : Ref sig .tc := ⟨.hbm, 361, rfl⟩
abbrev main_v230 : Ref sig .tc := ⟨.hbm, 362, rfl⟩
abbrev main_v231 : Ref sig .tc := ⟨.hbm, 363, rfl⟩
abbrev main_c_45 : Ref sig .tc := ⟨.hbm, 364, rfl⟩
abbrev main_v232 : Ref sig .tc := ⟨.hbm, 365, rfl⟩
abbrev main_v233 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_v239 : Ref sig .tc := ⟨.hbm, 372, rfl⟩
abbrev main_v240 : Ref sig .tc := ⟨.hbm, 373, rfl⟩

abbrev nD : Nat := 1
abbrev τ : Topo := Topo.v7x

variable {F : FTy → Type} [FloatOps F]

abbrev main_while0_count : Scf.Loop 32 := ⟨0#32, 1000#32, 1#32⟩
-- ==== Proof.KernelIdeal.HeadRun.lean ====
/-
  The head kernel's custom call of `Cert.KernelIdeal`: at each of its seven grid points the kernel's body run once, its accumulator
  carried in the scratch operand from point to point, and the five results written at the last point.
  What the scratch holds after point `n` is `accAt n`; what the results are is `headOut 0 … 4` of the accumulator and the
  inputs. The region's proof data `hdat`, its body obligation `hbody`, all at any contents `V` on entry.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What the body computes -/

/-- The hidden layer's second activation, from the accumulated first product. -/
def hid (acc : Vec F S1000x1024 .f32) (x2 : Vec F S1x1024 .f32) (x3 : Vec F S1024x1024 .f32) (x4 : Vec F S1x1024 .f32) : Vec F S1000x1024 .f32 :=
  k0_pay5 acc x2 x3 x4
/-- The masked class scores. -/
def headScore (acc : Vec F S1000x1024 .f32) (x2 : Vec F S1x1024 .f32) (x3 : Vec F S1024x1024 .f32) (x4 : Vec F S1x1024 .f32)
    (x5 : Vec F S128x1024 .f32) (x6 : Vec F S1x128 .f32) : Vec F S1000x128 .f32 :=
  k0_pay8 (k0_pay6 acc x2 x3 x4 x6 x5) (iota .tc S1000x128 32 [1] iota_S1000x128_d1_w32) k0_pay7
/-- The boxes' four coordinates, from the hidden activation, the regression weights and the proposals. -/
def headX1 (h : Vec F S1000x1024 .f32) (x7 : Vec F S512x1024 .f32) (x8 : Vec F S1x512 .f32) (x9 : Vec F S1000x4 .f32) : Vec F S1000x128 .f32 :=
  k0_pay20 (k0_pay10 h x7 x8) (k0_pay12 h x7 x8) x9 (k0_pay14 x9)
def headY1 (h : Vec F S1000x1024 .f32) (x7 : Vec F S512x1024 .f32) (x8 : Vec F S1x512 .f32) (x9 : Vec F S1000x4 .f32) : Vec F S1000x128 .f32 :=
  k0_pay21 (k0_pay11 h x7 x8) (k0_pay13 h x7 x8) x9 (k0_pay15 x9)
def headX2 (h : Vec F S1000x1024 .f32) (x7 : Vec F S512x1024 .f32) (x8 : Vec F S1x512 .f32) (x9 : Vec F S1000x4 .f32) : Vec F S1000x128 .f32 :=
  k0_pay3 (Scalar.ofBits .f32 0x44854000#32) (k0_pay22 (k0_pay10 h x7 x8) (k0_pay12 h x7 x8) x9 (k0_pay14 x9))
def headY2 (h : Vec F S1000x1024 .f32) (x7 : Vec F S512x1024 .f32) (x8 : Vec F S1x512 .f32) (x9 : Vec F S1000x4 .f32) : Vec F S1000x128 .f32 :=
  k0_pay4 (k0_pay17 (k0_pay11 h x7 x8) x9 (k0_pay15 x9)) (k0_pay19 (k0_pay13 h x7 x8) (k0_pay15 x9))

/-! ## The body's triple, in its three cases -/

/-- The first point. -/
abbrev isFirst (i : grid0.Coords) : Prop := Scalar.cmpi .ne ((Scalar.extui (Scalar.cmpi .eq (BitVec.ofNat 32 (i 0).val) 0#32) : BitVec 32)) 0#32 = 1#1
/-- The last point. -/
abbrev isLast (i : grid0.Coords) : Prop := k0_cond2 i = 1#1

section Body

variable (arg1 : Memref sig .tc .vmem S1000x1792 .f32) (harg1 : arg1.IsWhole)
variable (arg2 : Memref sig .tc .vmem S1024x1792 .f32) (harg2 : arg2.IsWhole)
variable (arg3 : Memref sig .tc .vmem S1x1024 .f32) (harg3 : arg3.IsWhole)
variable (arg4 : Memref sig .tc .vmem S1024x1024 .f32) (harg4 : arg4.IsWhole)
variable (arg5 : Memref sig .tc .vmem S1x1024 .f32) (harg5 : arg5.IsWhole)
variable (arg6 : Memref sig .tc .vmem S128x1024 .f32) (harg6 : arg6.IsWhole)
variable (arg7 : Memref sig .tc .vmem S1x128 .f32) (harg7 : arg7.IsWhole)
variable (arg8 : Memref sig .tc .vmem S512x1024 .f32) (harg8 : arg8.IsWhole)
variable (arg9 : Memref sig .tc .vmem S1x512 .f32) (harg9 : arg9.IsWhole)
variable (arg10 : Memref sig .tc .vmem S1000x4 .f32) (harg10 : arg10.IsWhole)
variable (arg11 : Memref sig .tc .vmem S1000x128 .f32) (harg11 : arg11.IsWhole)
variable (arg12 : Memref sig .tc .vmem S1000x128 .f32) (harg12 : arg12.IsWhole)
variable (arg13 : Memref sig .tc .vmem S1000x128 .f32) (harg13 : arg13.IsWhole)
variable (arg14 : Memref sig .tc .vmem S1000x128 .f32) (harg14 : arg14.IsWhole)
variable (arg15 : Memref sig .tc .vmem S1000x128 .f32) (harg15 : arg15.IsWhole)
variable (arg16 : Memref sig .tc .vmem S1000x1024 .f32) (harg16 : arg16.IsWhole)
variable (c : Dev nD) (i : grid0.Coords) (E : Set ℕ)
variable (x0 : Vec F S1000x1792 .f32)
variable (x1 : Vec F S1024x1792 .f32)
variable (x2 : Vec F S1x1024 .f32)
variable (x3 : Vec F S1024x1024 .f32)
variable (x4 : Vec F S1x1024 .f32)
variable (x5 : Vec F S128x1024 .f32)
variable (x6 : Vec F S1x128 .f32)
variable (x7 : Vec F S512x1024 .f32)
variable (x8 : Vec F S1x512 .f32)
variable (x9 : Vec F S1000x4 .f32)
variable (xs : Vec F S1000x1024 .f32)

set_option maxHeartbeats 4000000 in
/-- At the first point the scratch is zeroed, then the point's product added. -/
theorem runA (K : PUnit → sProp 𝕄) (h0 : isFirst i) (h1 : ¬isLast i) (d11 : Vec F S1000x128 .f32) (d12 : Vec F S1000x128 .f32) (d13 : Vec F S1000x128 .f32) (d14 : Vec F S1000x128 .f32) (d15 : Vec F S1000x128 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare (k0_pay2 k0_pay1 x0 x1)) -∗ K ⟨⟩))
      ⊢ wp frame (wpE (defs₀ (F := F)) Variants.none c none) E (cc0__head_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__head_body_eq_skeleton]; unfold cc0__head_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g11, %hg11, G11⟩, ⟨%g12, %hg12, G12⟩, ⟨%g13, %hg13, G13⟩, ⟨%g14, %hg14, G14⟩, ⟨%g15, %hg15, G15⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hg11; obtain rfl := harg12.eq_unread hg12; obtain rfl := harg13.eq_unread hg13; obtain rfl := harg14.eq_unread hg14; obtain rfl := harg15.eq_unread hg15
  sl_exec (disch := first | sl_exact h0 | sl_exact h1)
  sl_step
  iapply Hk
  isplitl [H0]; · iexists _; isplitr; swap; (· iexact H0); ipureintro; exact harg1.read_unread _
  isplitl [H1]; · iexists _; isplitr; swap; (· iexact H1); ipureintro; exact harg2.read_unread _
  isplitl [H2]; · iexists _; isplitr; swap; (· iexact H2); ipureintro; exact harg3.read_unread _
  isplitl [H3]; · iexists _; isplitr; swap; (· iexact H3); ipureintro; exact harg4.read_unread _
  isplitl [H4]; · iexists _; isplitr; swap; (· iexact H4); ipureintro; exact harg5.read_unread _
  isplitl [H5]; · iexists _; isplitr; swap; (· iexact H5); ipureintro; exact harg6.read_unread _
  isplitl [H6]; · iexists _; isplitr; swap; (· iexact H6); ipureintro; exact harg7.read_unread _
  isplitl [H7]; · iexists _; isplitr; swap; (· iexact H7); ipureintro; exact harg8.read_unread _
  isplitl [H8]; · iexists _; isplitr; swap; (· iexact H8); ipureintro; exact harg9.read_unread _
  isplitl [H9]; · iexists _; isplitr; swap; (· iexact H9); ipureintro; exact harg10.read_unread _
  isplitl [G11]; · iexists _; isplitr; swap; (· iexact G11); ipureintro; exact harg11.read_unread _
  isplitl [G12]; · iexists _; isplitr; swap; (· iexact G12); ipureintro; exact harg12.read_unread _
  isplitl [G13]; · iexists _; isplitr; swap; (· iexact G13); ipureintro; exact harg13.read_unread _
  isplitl [G14]; · iexists _; isplitr; swap; (· iexact G14); ipureintro; exact harg14.read_unread _
  isplitl [G15]; · iexists _; isplitr; swap; (· iexact G15); ipureintro; exact harg15.read_unread _
  iexists _; isplitr; swap; · iexact HS
  ipureintro; (sl_unfold_words; rw [View.read_writes_full]; dsimp only [hid, headScore, headX1, headY1, headX2, headY2]; simp (disch := first | assumption | decide) only [View.ld_unit_lit', View.readCov_unit_lit', View.readCov_cons_unit_lit', View.readAt_eq_ld, Memref.IsWhole.read_unread])

set_option maxHeartbeats 4000000 in
/-- At a point between, the point's product is added to the scratch. -/
theorem runB (K : PUnit → sProp 𝕄) (h0 : ¬isFirst i) (h1 : ¬isLast i) (d11 : Vec F S1000x128 .f32) (d12 : Vec F S1000x128 .f32) (d13 : Vec F S1000x128 .f32) (d14 : Vec F S1000x128 .f32) (d15 : Vec F S1000x128 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare (k0_pay2 xs x0 x1)) -∗ K ⟨⟩))
      ⊢ wp frame (wpE (defs₀ (F := F)) Variants.none c none) E (cc0__head_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__head_body_eq_skeleton]; unfold cc0__head_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g11, %hg11, G11⟩, ⟨%g12, %hg12, G12⟩, ⟨%g13, %hg13, G13⟩, ⟨%g14, %hg14, G14⟩, ⟨%g15, %hg15, G15⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hfs; obtain rfl := harg11.eq_unread hg11; obtain rfl := harg12.eq_unread hg12; obtain rfl := harg13.eq_unread hg13; obtain rfl := harg14.eq_unread hg14; obtain rfl := harg15.eq_unread hg15
  sl_exec (disch := first | sl_exact h0 | sl_exact h1)
  sl_step
  iapply Hk
  isplitl [H0]; · iexists _; isplitr; swap; (· iexact H0); ipureintro; exact harg1.read_unread _
  isplitl [H1]; · iexists _; isplitr; swap; (· iexact H1); ipureintro; exact harg2.read_unread _
  isplitl [H2]; · iexists _; isplitr; swap; (· iexact H2); ipureintro; exact harg3.read_unread _
  isplitl [H3]; · iexists _; isplitr; swap; (· iexact H3); ipureintro; exact harg4.read_unread _
  isplitl [H4]; · iexists _; isplitr; swap; (· iexact H4); ipureintro; exact harg5.read_unread _
  isplitl [H5]; · iexists _; isplitr; swap; (· iexact H5); ipureintro; exact harg6.read_unread _
  isplitl [H6]; · iexists _; isplitr; swap; (· iexact H6); ipureintro; exact harg7.read_unread _
  isplitl [H7]; · iexists _; isplitr; swap; (· iexact H7); ipureintro; exact harg8.read_unread _
  isplitl [H8]; · iexists _; isplitr; swap; (· iexact H8); ipureintro; exact harg9.read_unread _
  isplitl [H9]; · iexists _; isplitr; swap; (· iexact H9); ipureintro; exact harg10.read_unread _
  isplitl [G11]; · iexists _; isplitr; swap; (· iexact G11); ipureintro; exact harg11.read_unread _
  isplitl [G12]; · iexists _; isplitr; swap; (· iexact G12); ipureintro; exact harg12.read_unread _
  isplitl [G13]; · iexists _; isplitr; swap; (· iexact G13); ipureintro; exact harg13.read_unread _
  isplitl [G14]; · iexists _; isplitr; swap; (· iexact G14); ipureintro; exact harg14.read_unread _
  isplitl [G15]; · iexists _; isplitr; swap; (· iexact G15); ipureintro; exact harg15.read_unread _
  iexists _; isplitr; swap; · iexact HS
  ipureintro; (sl_unfold_words; rw [View.read_writes_full]; dsimp only [hid, headScore, headX1, headY1, headX2, headY2]; simp (disch := first | assumption | decide) only [View.ld_unit_lit', View.readCov_unit_lit', View.readCov_cons_unit_lit', View.readAt_eq_ld, Memref.IsWhole.read_unread])

set_option maxHeartbeats 4000000 in
/-- At the last point the product is added and the results are written. -/
theorem runC (K : PUnit → sProp 𝕄) (h0 : ¬isFirst i) (h1 : isLast i)  :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (headScore (k0_pay2 xs x0 x1) x2 x3 x4 x5 x6) ∗ owns (c : Thread nD τ) arg12 fullShare (headX1 (hid (k0_pay2 xs x0 x1) x2 x3 x4) x7 x8 x9) ∗ owns (c : Thread nD τ) arg13 fullShare (headY1 (hid (k0_pay2 xs x0 x1) x2 x3 x4) x7 x8 x9) ∗ owns (c : Thread nD τ) arg14 fullShare (headX2 (hid (k0_pay2 xs x0 x1) x2 x3 x4) x7 x8 x9) ∗ owns (c : Thread nD τ) arg15 fullShare (headY2 (hid (k0_pay2 xs x0 x1) x2 x3 x4) x7 x8 x9) ∗ owns (c : Thread nD τ) arg16 fullShare (k0_pay2 xs x0 x1)) -∗ K ⟨⟩))
      ⊢ wp frame (wpE (defs₀ (F := F)) Variants.none c none) E (cc0__head_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__head_body_eq_skeleton]; unfold cc0__head_body_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d11, %g11, -, G11⟩, ⟨%d12, %g12, -, G12⟩, ⟨%d13, %g13, -, G13⟩, ⟨%d14, %g14, -, G14⟩, ⟨%d15, %g15, -, G15⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hfs
  sl_exec (disch := first | sl_exact h0 | sl_exact h1)
  sl_step
  iapply Hk
  isplitl [H0]; · iexists _; isplitr; swap; (· iexact H0); ipureintro; exact harg1.read_unread _
  isplitl [H1]; · iexists _; isplitr; swap; (· iexact H1); ipureintro; exact harg2.read_unread _
  isplitl [H2]; · iexists _; isplitr; swap; (· iexact H2); ipureintro; exact harg3.read_unread _
  isplitl [H3]; · iexists _; isplitr; swap; (· iexact H3); ipureintro; exact harg4.read_unread _
  isplitl [H4]; · iexists _; isplitr; swap; (· iexact H4); ipureintro; exact harg5.read_unread _
  isplitl [H5]; · iexists _; isplitr; swap; (· iexact H5); ipureintro; exact harg6.read_unread _
  isplitl [H6]; · iexists _; isplitr; swap; (· iexact H6); ipureintro; exact harg7.read_unread _
  isplitl [H7]; · iexists _; isplitr; swap; (· iexact H7); ipureintro; exact harg8.read_unread _
  isplitl [H8]; · iexists _; isplitr; swap; (· iexact H8); ipureintro; exact harg9.read_unread _
  isplitl [H9]; · iexists _; isplitr; swap; (· iexact H9); ipureintro; exact harg10.read_unread _
  isplitl [G11]
  · iexists _; isplitr; swap; · iexact G11
    ipureintro; (sl_unfold_words; rw [View.read_writes_full]; dsimp only [hid, headScore, headX1, headY1, headX2, headY2]; simp (disch := first | assumption | decide) only [View.ld_unit_lit', View.readCov_unit_lit', View.readCov_cons_unit_lit', View.readAt_eq_ld, Memref.IsWhole.read_unread])
  isplitl [G12]
  · iexists _; isplitr; swap; · iexact G12
    ipureintro; (sl_unfold_words; rw [View.read_writes_full]; dsimp only [hid, headScore, headX1, headY1, headX2, headY2]; simp (disch := first | assumption | decide) only [View.ld_unit_lit', View.readCov_unit_lit', View.readCov_cons_unit_lit', View.readAt_eq_ld, Memref.IsWhole.read_unread])
  isplitl [G13]
  · iexists _; isplitr; swap; · iexact G13
    ipureintro; (sl_unfold_words; rw [View.read_writes_full]; dsimp only [hid, headScore, headX1, headY1, headX2, headY2]; simp (disch := first | assumption | decide) only [View.ld_unit_lit', View.readCov_unit_lit', View.readCov_cons_unit_lit', View.readAt_eq_ld, Memref.IsWhole.read_unread])
  isplitl [G14]
  · iexists _; isplitr; swap; · iexact G14
    ipureintro; (sl_unfold_words; rw [View.read_writes_full]; dsimp only [hid, headScore, headX1, headY1, headX2, headY2]; simp (disch := first | assumption | decide) only [View.ld_unit_lit', View.readCov_unit_lit', View.readCov_cons_unit_lit', View.readAt_eq_ld, Memref.IsWhole.read_unread])
  isplitl [G15]
  · iexists _; isplitr; swap; · iexact G15
    ipureintro; (sl_unfold_words; rw [View.read_writes_full]; dsimp only [hid, headScore, headX1, headY1, headX2, headY2]; simp (disch := first | assumption | decide) only [View.ld_unit_lit', View.readCov_unit_lit', View.readCov_cons_unit_lit', View.readAt_eq_ld, Memref.IsWhole.read_unread])
  iexists _; isplitr; swap; · iexact HS
  ipureintro; (sl_unfold_words; rw [View.read_writes_full]; dsimp only [hid, headScore, headX1, headY1, headX2, headY2]; simp (disch := first | assumption | decide) only [View.ld_unit_lit', View.readCov_unit_lit', View.readCov_cons_unit_lit', View.readAt_eq_ld, Memref.IsWhole.read_unread])

end Body
end Cert.Proof.KernelIdeal

end
-- ==== Proof.KernelIdeal.HeadDat.lean ====
/-
  The head kernel's region of `Cert.KernelIdeal`, point by point: its proof data at any contents `V` on entry, and the body's
  obligation from the three triples of `HeadRun`.
-/
module

public import proofs.«01_k».proof.Proof.KernelIdeal.HeadRun

@[expose] public section

set_option maxRecDepth 16384

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem isFirst_iff : ∀ t : Fin cfg0.N, isFirst (grid0.coords t) ↔ t.val = 0 :=
  (fun t => by
    have ht : t.val < 7 := Nat.lt_of_lt_of_eq t.isLt N_0
    have e0 : (grid0.coords t 0).val = t.val / 1 % 7 := Pipeline.Grid.coords_val t 0 (by decide) rfl
    simp only [isFirst, e0]
    word_cmp
   : ∀ t : Fin grid0.N, isFirst (grid0.coords t) ↔ t.val = 0)
theorem isLast_iff : ∀ t : Fin cfg0.N, isLast (grid0.coords t) ↔ t.val = 6 :=
  (fun t => by
    have ht : t.val < 7 := Nat.lt_of_lt_of_eq t.isLt N_0
    have e0 : (grid0.coords t 0).val = t.val / 1 % 7 := Pipeline.Grid.coords_val t 0 (by decide) rfl
    simp only [isLast, k0_cond2, e0]
    word_cmp
   : ∀ t : Fin grid0.N, isLast (grid0.coords t) ↔ t.val = 6)

/-- An output window away from the last point: idle, and not written back. -/
theorem idle_out : ∀ t : Fin cfg0.N, ¬isLast (grid0.coords t) → ∀ w : Fin cfg0.W, 10 ≤ w.val →
    cfg0.idle w (grid0.coords t) = true ∧ (cfg0.win w).flush t = false := by decide +kernel
/-- At the last point no window is idle. -/
theorem live_out : ∀ t : Fin cfg0.N, isLast (grid0.coords t) → ∀ w : Fin cfg0.W, cfg0.idle w (grid0.coords t) = false := by decide +kernel
/-- An input window is never idle. -/
theorem live_in : ∀ t : Fin cfg0.N, ∀ w : Fin cfg0.W, w.val < 10 → cfg0.idle w (grid0.coords t) = false := by decide +kernel

/-- Window `w`'s block at point `t`, read off its array as the region finds it. -/
def hblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: the sum of the products up to it. -/
def accAt (c : Dev nD) : (n : ℕ) → n < cfg0.N → Vec F S1000x1024 .f32
  | 0, h => k0_pay2 k0_pay1 (hblk V c 0 ⟨0, h⟩) (hblk V c 1 ⟨0, h⟩)
  | n + 1, h => k0_pay2 (accAt c n (Nat.lt_of_succ_lt h)) (hblk V c 0 ⟨n + 1, h⟩) (hblk V c 1 ⟨n + 1, h⟩)

theorem accAt_first (c : Dev nD) (t : Fin cfg0.N) (h : t.val = 0) :
    accAt V c t.val t.isLt = k0_pay2 k0_pay1 (hblk V c 0 t) (hblk V c 1 t) := by
  obtain ⟨n, hn⟩ := t; cases n with
  | zero => rfl
  | succ n => exact absurd h (Nat.succ_ne_zero n)
theorem accAt_next (c : Dev nD) (t : Fin cfg0.N) (h : t.val ≠ 0) :
    accAt V c t.val t.isLt = k0_pay2 (accAt V c (t.val - 1) (by omega)) (hblk V c 0 t) (hblk V c 1 t) := by
  obtain ⟨n, hn⟩ := t; cases n with
  | zero => exact absurd rfl h
  | succ n => rfl

/-- The five results at point `t`. -/
def hout (c : Dev nD) (t : Fin cfg0.N) : Fin 5 → Vec F S1000x128 .f32
  | 0 => headScore (accAt V c t.val t.isLt) (hblk V c 2 t) (hblk V c 3 t) (hblk V c 4 t) (hblk V c 5 t) (hblk V c 6 t)
  | 1 => headX1 (hid (accAt V c t.val t.isLt) (hblk V c 2 t) (hblk V c 3 t) (hblk V c 4 t)) (hblk V c 7 t) (hblk V c 8 t) (hblk V c 9 t)
  | 2 => headY1 (hid (accAt V c t.val t.isLt) (hblk V c 2 t) (hblk V c 3 t) (hblk V c 4 t)) (hblk V c 7 t) (hblk V c 8 t) (hblk V c 9 t)
  | 3 => headX2 (hid (accAt V c t.val t.isLt) (hblk V c 2 t) (hblk V c 3 t) (hblk V c 4 t)) (hblk V c 7 t) (hblk V c 8 t) (hblk V c 9 t)
  | 4 => headY2 (hid (accAt V c t.val t.isLt) (hblk V c 2 t) (hblk V c 3 t) (hblk V c 4 t)) (hblk V c 7 t) (hblk V c 8 t) (hblk V c 9 t)

abbrev scM : Memref sig .tc .vmem S1000x1024 .f32 := Memref.whole cc0_scratch0

/-- The scoped buffers the head kernel never touches: the other kernel's. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

theorem Phi0_eq (c : Dev nD) :
    (Pipeline.ΦA spec0 c : sProp 𝕄) = iprop(((∃ d, owns (c : Thread nD τ) scM fullShare d) ∗ otherScoped c) ∗ (∃ r, prngReg c r)) := by
  unfold Pipeline.ΦA; rw [scopedRest0_eq]; unfold otherScoped; simp only [scM, owns_whole]; try rfl

/-- The invariant before point `n`: the scratch at what the point before left. -/
def hPhi (c : Dev nD) : (n : ℕ) → n ≤ cfg0.N → sProp 𝕄
  | 0, _ => Pipeline.ΦA spec0 c
  | n + 1, hn => iprop((owns (c : Thread nD τ) scM fullShare (accAt V c n hn) ∗ otherScoped c) ∗ (∃ r, prngReg c r))

theorem hPhi_pos (c : Dev nD) (n : ℕ) (h : n ≤ cfg0.N) (hz : n ≠ 0) :
    hPhi V c n h = iprop((owns (c : Thread nD τ) scM fullShare (accAt V c (n - 1) (by omega)) ∗ otherScoped c) ∗ (∃ r, prngReg c r)) := by
  cases n with
  | zero => exact absurd rfl hz
  | succ n => rfl

/-- The region's proof data: the arrays as found; after the body each input's block in place, the outputs at `hout`. -/
def hdat (c : Dev nD) : Dat τ (Elt F) Unit ℕ (UR sig nD τ) ℕ cfg0 c where
  A w := V c (Pipeline.arrRef spec0 w)
  after w t := match w with
    | ⟨0, _⟩ => hblk V c 0 t
    | ⟨1, _⟩ => hblk V c 1 t
    | ⟨2, _⟩ => hblk V c 2 t
    | ⟨3, _⟩ => hblk V c 3 t
    | ⟨4, _⟩ => hblk V c 4 t
    | ⟨5, _⟩ => hblk V c 5 t
    | ⟨6, _⟩ => hblk V c 6 t
    | ⟨7, _⟩ => hblk V c 7 t
    | ⟨8, _⟩ => hblk V c 8 t
    | ⟨9, _⟩ => hblk V c 9 t
    | ⟨10, _⟩ => hout V c t 0
    | ⟨11, _⟩ => hout V c t 1
    | ⟨12, _⟩ => hout V c t 2
    | ⟨13, _⟩ => hout V c t 3
    | ⟨14, _⟩ => hout V c t 4
  Φ t := hPhi V c t.val (Nat.le_of_lt_succ t.isLt)
  q _ := fullShare
  owed _ := 0

theorem hdat_A (c : Dev nD) (w : Fin cfg0.W) : (hdat V c).A w = V c (Pipeline.arrRef spec0 w) := by
  dsimp only [hdat]
theorem hdat_castSucc (c : Dev nD) (t : Fin cfg0.N) : (hdat V c).Φ t.castSucc = hPhi V c t.val (Nat.le_of_lt t.isLt) := by
  dsimp only [hdat]; exact Pipeline.Dat.Φ_castSucc (hPhi V c) t

theorem hafter_0 (c : Dev nD) (t : Fin cfg0.N) : (hdat V c).after 0 t = hblk V c 0 t := by dsimp only [hdat]
theorem hafter_1 (c : Dev nD) (t : Fin cfg0.N) : (hdat V c).after 1 t = hblk V c 1 t := by dsimp only [hdat]
theorem hafter_2 (c : Dev nD) (t : Fin cfg0.N) : (hdat V c).after 2 t = hblk V c 2 t := by dsimp only [hdat]
theorem hafter_3 (c : Dev nD) (t : Fin cfg0.N) : (hdat V c).after 3 t = hblk V c 3 t := by dsimp only [hdat]
theorem hafter_4 (c : Dev nD) (t : Fin cfg0.N) : (hdat V c).after 4 t = hblk V c 4 t := by dsimp only [hdat]
theorem hafter_5 (c : Dev nD) (t : Fin cfg0.N) : (hdat V c).after 5 t = hblk V c 5 t := by dsimp only [hdat]
theorem hafter_6 (c : Dev nD) (t : Fin cfg0.N) : (hdat V c).after 6 t = hblk V c 6 t := by dsimp only [hdat]
theorem hafter_7 (c : Dev nD) (t : Fin cfg0.N) : (hdat V c).after 7 t = hblk V c 7 t := by dsimp only [hdat]
theorem hafter_8 (c : Dev nD) (t : Fin cfg0.N) : (hdat V c).after 8 t = hblk V c 8 t := by dsimp only [hdat]
theorem hafter_9 (c : Dev nD) (t : Fin cfg0.N) : (hdat V c).after 9 t = hblk V c 9 t := by dsimp only [hdat]
theorem hafter_10 (c : Dev nD) (t : Fin cfg0.N) : (hdat V c).after 10 t = hout V c t 0 := by dsimp only [hdat]
theorem hafter_11 (c : Dev nD) (t : Fin cfg0.N) : (hdat V c).after 11 t = hout V c t 1 := by dsimp only [hdat]
theorem hafter_12 (c : Dev nD) (t : Fin cfg0.N) : (hdat V c).after 12 t = hout V c t 2 := by dsimp only [hdat]
theorem hafter_13 (c : Dev nD) (t : Fin cfg0.N) : (hdat V c).after 13 t = hout V c t 3 := by dsimp only [hdat]
theorem hafter_14 (c : Dev nD) (t : Fin cfg0.N) : (hdat V c).after 14 t = hout V c t 4 := by dsimp only [hdat]

theorem hbefore_0 (c : Dev nD) (t : Fin cfg0.N) (d) : (hdat V c).before 0 t d = hblk V c 0 t :=
  ((hdat V c).before_in_eq_fetched 0 rfl (fun _ => rfl) (fun _ _ _ => rfl) (fun t => by rw [hafter_0]; unfold Dat.blockOf hblk; rw [hdat_A]; try rfl) t d).trans
    (by unfold Dat.fetched Dat.blockOf hblk; rw [hdat_A]; try rfl)
theorem hbefore_1 (c : Dev nD) (t : Fin cfg0.N) (d) : (hdat V c).before 1 t d = hblk V c 1 t :=
  ((hdat V c).before_in_eq_fetched 1 rfl (fun _ => rfl) (fun _ _ _ => rfl) (fun t => by rw [hafter_1]; unfold Dat.blockOf hblk; rw [hdat_A]; try rfl) t d).trans
    (by unfold Dat.fetched Dat.blockOf hblk; rw [hdat_A]; try rfl)
theorem hbefore_2 (c : Dev nD) (t : Fin cfg0.N) (d) : (hdat V c).before 2 t d = hblk V c 2 t :=
  ((hdat V c).before_in_eq_fetched 2 rfl (fun _ => rfl) (fun _ _ _ => rfl) (fun t => by rw [hafter_2]; unfold Dat.blockOf hblk; rw [hdat_A]; try rfl) t d).trans
    (by unfold Dat.fetched Dat.blockOf hblk; rw [hdat_A]; try rfl)
theorem hbefore_3 (c : Dev nD) (t : Fin cfg0.N) (d) : (hdat V c).before 3 t d = hblk V c 3 t :=
  ((hdat V c).before_in_eq_fetched 3 rfl (fun _ => rfl) (fun _ _ _ => rfl) (fun t => by rw [hafter_3]; unfold Dat.blockOf hblk; rw [hdat_A]; try rfl) t d).trans
    (by unfold Dat.fetched Dat.blockOf hblk; rw [hdat_A]; try rfl)
theorem hbefore_4 (c : Dev nD) (t : Fin cfg0.N) (d) : (hdat V c).before 4 t d = hblk V c 4 t :=
  ((hdat V c).before_in_eq_fetched 4 rfl (fun _ => rfl) (fun _ _ _ => rfl) (fun t => by rw [hafter_4]; unfold Dat.blockOf hblk; rw [hdat_A]; try rfl) t d).trans
    (by unfold Dat.fetched Dat.blockOf hblk; rw [hdat_A]; try rfl)
theorem hbefore_5 (c : Dev nD) (t : Fin cfg0.N) (d) : (hdat V c).before 5 t d = hblk V c 5 t :=
  ((hdat V c).before_in_eq_fetched 5 rfl (fun _ => rfl) (fun _ _ _ => rfl) (fun t => by rw [hafter_5]; unfold Dat.blockOf hblk; rw [hdat_A]; try rfl) t d).trans
    (by unfold Dat.fetched Dat.blockOf hblk; rw [hdat_A]; try rfl)
theorem hbefore_6 (c : Dev nD) (t : Fin cfg0.N) (d) : (hdat V c).before 6 t d = hblk V c 6 t :=
  ((hdat V c).before_in_eq_fetched 6 rfl (fun _ => rfl) (fun _ _ _ => rfl) (fun t => by rw [hafter_6]; unfold Dat.blockOf hblk; rw [hdat_A]; try rfl) t d).trans
    (by unfold Dat.fetched Dat.blockOf hblk; rw [hdat_A]; try rfl)
theorem hbefore_7 (c : Dev nD) (t : Fin cfg0.N) (d) : (hdat V c).before 7 t d = hblk V c 7 t :=
  ((hdat V c).before_in_eq_fetched 7 rfl (fun _ => rfl) (fun _ _ _ => rfl) (fun t => by rw [hafter_7]; unfold Dat.blockOf hblk; rw [hdat_A]; try rfl) t d).trans
    (by unfold Dat.fetched Dat.blockOf hblk; rw [hdat_A]; try rfl)
theorem hbefore_8 (c : Dev nD) (t : Fin cfg0.N) (d) : (hdat V c).before 8 t d = hblk V c 8 t :=
  ((hdat V c).before_in_eq_fetched 8 rfl (fun _ => rfl) (fun _ _ _ => rfl) (fun t => by rw [hafter_8]; unfold Dat.blockOf hblk; rw [hdat_A]; try rfl) t d).trans
    (by unfold Dat.fetched Dat.blockOf hblk; rw [hdat_A]; try rfl)
theorem hbefore_9 (c : Dev nD) (t : Fin cfg0.N) (d) : (hdat V c).before 9 t d = hblk V c 9 t :=
  ((hdat V c).before_in_eq_fetched 9 rfl (fun _ => rfl) (fun _ _ _ => rfl) (fun t => by rw [hafter_9]; unfold Dat.blockOf hblk; rw [hdat_A]; try rfl) t d).trans
    (by unfold Dat.fetched Dat.blockOf hblk; rw [hdat_A]; try rfl)

/-- What the body is called with at point `t`, and what it returns. -/
def hPre (c : Dev nD) (t : Fin cfg0.N) : sProp 𝕄 :=
  iprop((hdat V c).Φ t.castSucc ∗ (hdat V c).owesAt () t.castSucc
    ∗ (∃ d, owns (c : Thread nD τ) (st0_0 t) fullShare ((hdat V c).before 0 t d))
    ∗ (∃ d, owns (c : Thread nD τ) (st0_1 t) fullShare ((hdat V c).before 1 t d))
    ∗ (∃ d, owns (c : Thread nD τ) (st0_2 t) fullShare ((hdat V c).before 2 t d))
    ∗ (∃ d, owns (c : Thread nD τ) (st0_3 t) fullShare ((hdat V c).before 3 t d))
    ∗ (∃ d, owns (c : Thread nD τ) (st0_4 t) fullShare ((hdat V c).before 4 t d))
    ∗ (∃ d, owns (c : Thread nD τ) (st0_5 t) fullShare ((hdat V c).before 5 t d))
    ∗ (∃ d, owns (c : Thread nD τ) (st0_6 t) fullShare ((hdat V c).before 6 t d))
    ∗ (∃ d, owns (c : Thread nD τ) (st0_7 t) fullShare ((hdat V c).before 7 t d))
    ∗ (∃ d, owns (c : Thread nD τ) (st0_8 t) fullShare ((hdat V c).before 8 t d))
    ∗ (∃ d, owns (c : Thread nD τ) (st0_9 t) fullShare ((hdat V c).before 9 t d))
    ∗ (∃ d, owns (c : Thread nD τ) (st0_10 t) fullShare ((hdat V c).before 10 t d))
    ∗ (∃ d, owns (c : Thread nD τ) (st0_11 t) fullShare ((hdat V c).before 11 t d))
    ∗ (∃ d, owns (c : Thread nD τ) (st0_12 t) fullShare ((hdat V c).before 12 t d))
    ∗ (∃ d, owns (c : Thread nD τ) (st0_13 t) fullShare ((hdat V c).before 13 t d))
    ∗ (∃ d, owns (c : Thread nD τ) (st0_14 t) fullShare ((hdat V c).before 14 t d)))
def hPost (c : Dev nD) (t : Fin cfg0.N) : sProp 𝕄 :=
  iprop((hdat V c).Φ t.succ ∗ (hdat V c).owesAt () t.succ
    ∗ (hdat V c).leavesExact 0 t
    ∗ (hdat V c).leavesExact 1 t
    ∗ (hdat V c).leavesExact 2 t
    ∗ (hdat V c).leavesExact 3 t
    ∗ (hdat V c).leavesExact 4 t
    ∗ (hdat V c).leavesExact 5 t
    ∗ (hdat V c).leavesExact 6 t
    ∗ (hdat V c).leavesExact 7 t
    ∗ (hdat V c).leavesExact 8 t
    ∗ (hdat V c).leavesExact 9 t
    ∗ (hdat V c).leavesExact 10 t
    ∗ (hdat V c).leavesExact 11 t
    ∗ (hdat V c).leavesExact 12 t
    ∗ (hdat V c).leavesExact 13 t
    ∗ (hdat V c).leavesExact 14 t)

theorem leaves_live (c : Dev nD) (w : Fin cfg0.W) (t : Fin cfg0.N) (h : cfg0.idle w (grid0.coords t) = false) :
    (hdat V c).leavesExact w t = owns (c : Thread nD τ) ((cfg0.win w).stage (cfg0.slots t w)) fullShare ((hdat V c).after w t) := by
  unfold Dat.leavesExact; rw [h]

set_option maxHeartbeats 8000000 in
/-- The body at any point. -/
theorem hsound (c : Dev nD) (t : Fin cfg0.N) :
    hPre V c t ⊢ wp frame (wpE (defs₀ (F := F)) Variants.none c none) Set.univ (bodyAt0 t) (fun _ => hPost V c t) := by
  have hN : t.val < 7 := lt_of_lt_of_eq t.isLt (show cfg0.N = 7 from N_0)
  unfold hPre hPost bodyAt0
  simp only [hbefore_0, hbefore_1, hbefore_2, hbefore_3, hbefore_4, hbefore_5, hbefore_6, hbefore_7, hbefore_8, hbefore_9]
  rw [show (hdat V c).owesAt () t.succ = (hdat V c).owesAt () t.castSucc from rfl]
  rw [show (hdat V c).Φ t.succ = iprop((owns (c : Thread nD τ) scM fullShare (accAt V c t.val t.isLt) ∗ otherScoped c) ∗ (∃ r, prngReg c r)) from rfl,
    hdat_castSucc]
  rw [leaves_live V c 0 t (live_in t 0 (by decide)), hafter_0]
  rw [leaves_live V c 1 t (live_in t 1 (by decide)), hafter_1]
  rw [leaves_live V c 2 t (live_in t 2 (by decide)), hafter_2]
  rw [leaves_live V c 3 t (live_in t 3 (by decide)), hafter_3]
  rw [leaves_live V c 4 t (live_in t 4 (by decide)), hafter_4]
  rw [leaves_live V c 5 t (live_in t 5 (by decide)), hafter_5]
  rw [leaves_live V c 6 t (live_in t 6 (by decide)), hafter_6]
  rw [leaves_live V c 7 t (live_in t 7 (by decide)), hafter_7]
  rw [leaves_live V c 8 t (live_in t 8 (by decide)), hafter_8]
  rw [leaves_live V c 9 t (live_in t 9 (by decide)), hafter_9]
  by_cases h0 : t.val = 0
  · have h6 : ¬t.val = 6 := by omega
    rw [Dat.leavesExact_idle (hdat V c) 10 t (idle_out t (fun h => h6 ((isLast_iff t).mp h)) 10 (by decide)).1 (idle_out t (fun h => h6 ((isLast_iff t).mp h)) 10 (by decide)).2]
    rw [Dat.leavesExact_idle (hdat V c) 11 t (idle_out t (fun h => h6 ((isLast_iff t).mp h)) 11 (by decide)).1 (idle_out t (fun h => h6 ((isLast_iff t).mp h)) 11 (by decide)).2]
    rw [Dat.leavesExact_idle (hdat V c) 12 t (idle_out t (fun h => h6 ((isLast_iff t).mp h)) 12 (by decide)).1 (idle_out t (fun h => h6 ((isLast_iff t).mp h)) 12 (by decide)).2]
    rw [Dat.leavesExact_idle (hdat V c) 13 t (idle_out t (fun h => h6 ((isLast_iff t).mp h)) 13 (by decide)).1 (idle_out t (fun h => h6 ((isLast_iff t).mp h)) 13 (by decide)).2]
    rw [Dat.leavesExact_idle (hdat V c) 14 t (idle_out t (fun h => h6 ((isLast_iff t).mp h)) 14 (by decide)).1 (idle_out t (fun h => h6 ((isLast_iff t).mp h)) 14 (by decide)).2]
    rw [show hPhi V c t.val (Nat.le_of_lt t.isLt) = Pipeline.ΦA spec0 c from by obtain ⟨n, hn⟩ := t; obtain rfl : n = 0 := h0; rfl, Phi0_eq, accAt_first V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runA _ _ _ _ _ _ _ _ _ _ _ _ _ _ _ _ _ _ _ _ _ _ _ _ _ _ _ _ _ _ _ _ c (grid0.coords t) Set.univ (hblk V c 0 t) (hblk V c 1 t) (hblk V c 2 t) (hblk V c 3 t) (hblk V c 4 t) (hblk V c 5 t) (hblk V c 6 t) (hblk V c 7 t) (hblk V c 8 t) (hblk V c 9 t) _ ((isFirst_iff t).mpr h0) (fun h => h6 ((isLast_iff t).mp h)) _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS]; · iexact HS
    iintro ⟨H0, H1, H2, H3, H4, H5, H6, H7, H8, H9, H10, H11, H12, H13, H14, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iexists _; iexact H14
  · by_cases h6 : t.val = 6
    · skip
      rw [leaves_live V c 10 t (live_out t ((isLast_iff t).mpr h6) 10), hafter_10]
      rw [leaves_live V c 11 t (live_out t ((isLast_iff t).mpr h6) 11), hafter_11]
      rw [leaves_live V c 12 t (live_out t ((isLast_iff t).mpr h6) 12), hafter_12]
      rw [leaves_live V c 13 t (live_out t ((isLast_iff t).mpr h6) 13), hafter_13]
      rw [leaves_live V c 14 t (live_out t ((isLast_iff t).mpr h6) 14), hafter_14]
      rw [hPhi_pos V c _ _ h0]; dsimp only [hout]; rw [accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (runC _ _ _ _ _ _ _ _ _ _ _ _ _ _ _ _ _ _ _ _ _ _ _ _ _ _ _ _ _ _ _ _ c (grid0.coords t) Set.univ (hblk V c 0 t) (hblk V c 1 t) (hblk V c 2 t) (hblk V c 3 t) (hblk V c 4 t) (hblk V c 5 t) (hblk V c 6 t) (hblk V c 7 t) (hblk V c 8 t) (hblk V c 9 t) (accAt V c (t.val - 1) (by omega)) _ (fun h => h0 ((isFirst_iff t).mp h)) ((isLast_iff t).mpr h6))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [HS]; · iexact HS
      iintro ⟨H0, H1, H2, H3, H4, H5, H6, H7, H8, H9, H10, H11, H12, H13, H14, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · skip
      rw [Dat.leavesExact_idle (hdat V c) 10 t (idle_out t (fun h => h6 ((isLast_iff t).mp h)) 10 (by decide)).1 (idle_out t (fun h => h6 ((isLast_iff t).mp h)) 10 (by decide)).2]
      rw [Dat.leavesExact_idle (hdat V c) 11 t (idle_out t (fun h => h6 ((isLast_iff t).mp h)) 11 (by decide)).1 (idle_out t (fun h => h6 ((isLast_iff t).mp h)) 11 (by decide)).2]
      rw [Dat.leavesExact_idle (hdat V c) 12 t (idle_out t (fun h => h6 ((isLast_iff t).mp h)) 12 (by decide)).1 (idle_out t (fun h => h6 ((isLast_iff t).mp h)) 12 (by decide)).2]
      rw [Dat.leavesExact_idle (hdat V c) 13 t (idle_out t (fun h => h6 ((isLast_iff t).mp h)) 13 (by decide)).1 (idle_out t (fun h => h6 ((isLast_iff t).mp h)) 13 (by decide)).2]
      rw [Dat.leavesExact_idle (hdat V c) 14 t (idle_out t (fun h => h6 ((isLast_iff t).mp h)) 14 (by decide)).1 (idle_out t (fun h => h6 ((isLast_iff t).mp h)) 14 (by decide)).2]
      rw [hPhi_pos V c _ _ h0, accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (runB _ _ _ _ _ _ _ _ _ _ _ _ _ _ _ _ _ _ _ _ _ _ _ _ _ _ _ _ _ _ _ _ c (grid0.coords t) Set.univ (hblk V c 0 t) (hblk V c 1 t) (hblk V c 2 t) (hblk V c 3 t) (hblk V c 4 t) (hblk V c 5 t) (hblk V c 6 t) (hblk V c 7 t) (hblk V c 8 t) (hblk V c 9 t) (accAt V c (t.val - 1) (by omega)) _ (fun h => h0 ((isFirst_iff t).mp h)) (fun h => h6 ((isLast_iff t).mp h)) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS]; · iexact HS
      iintro ⟨H0, H1, H2, H3, H4, H5, H6, H7, H8, H9, H10, H11, H12, H13, H14, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      iexists _; iexact H14

theorem hrow (t : Fin cfg0.N) : defs₀ (F := F) .tc cfg0.body (cfg0.bodyArgs t (cfg0.slots t)) = bodyAt0 t := by
  unfold defs₀; rw [Defs.onTc_tc]

/-- The body's obligation at every point. -/
theorem hbody (c : Dev nD) : BodyObligation (hdat (F := F) V c) (defs₀ (F := F)) Variants.none () Set.univ := fun t => by
  rw [bigSep_W0, bigSep_W0, hrow]
  exact triple_restated (hsound V c t) rfl .rfl fun _ => .rfl

/-- What the launch hands the region is the invariant before the first point; -/
theorem hphi_in (c : Dev nD) : (hdat V c).Φ 0 = Pipeline.ΦA spec0 c := by dsimp only [hdat]; rfl
/-- after the last, the scratch's contents are forgotten. -/
theorem hphi_out (c : Dev nD) : (hdat V c).Φ (Fin.last cfg0.N) ⊢ Pipeline.ΦA spec0 c := by
  rw [show (hdat V c).Φ (Fin.last cfg0.N) = hPhi V c cfg0.N le_rfl from rfl, hPhi_pos V c _ _ (by rw [show cfg0.N = 7 from N_0]; decide), Phi0_eq]
  iintro ⟨⟨HS, HR⟩, Hg⟩
  isplitl [HS HR]
  · isplitl [HS]; · iexists _; iexact HS
    iexact HR
  iexact Hg

end Cert.Proof.KernelIdeal

end
-- ==== Proof.KernelIdeal.NmsDat.lean ====
/-
  The suppression kernel's custom call of `Cert.KernelIdeal`: its one grid point's body run once, the suppression matrix staged in
  the scratch operand and the keep vector carried through the thousand-trip loop. `nmsRun` holds the stores the run makes
  to the result, `nmsOut` the result; `ndat` the region's proof data and `nbody` its body obligation, at any contents `V`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The body's run on whole staging buffers: the stores it makes to the result, with the run. -/
def nmsRun (c : Dev nD) (arg0 : Memref sig .tc .vmem S1024x4 .f32) (harg0 : arg0.IsWhole) (arg1 : Memref sig .tc .vmem S4x1024 .f32) (harg1 : arg1.IsWhole) (arg2 : Memref sig .tc .vmem S8x1024 .f32) (harg2 : arg2.IsWhole) (arg3 : Memref sig .tc .vmem S1024x1024 .f32) (harg3 : arg3.IsWhole)
    (x0 : Vec F S1024x4 .f32) (x1 : Vec F S4x1024 .f32) :
    { L2 : List (View.Piece (Elt F) S8x1024 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d)
            ∗ (iprop(owns (c : Thread nD τ) arg0 fullShare x0 ∗ owns (c : Thread nD τ) arg1 fullShare x1
                ∗ (∃ f, arg2.view.loc (c : Thread nD τ) ↦[arg2.view.set]{fullShare} arg2.view.writes (Elt F) f L2) ∗ (∃ d, owns (c : Thread nD τ) arg3 fullShare d)) -∗ K ⟨⟩))
          ⊢ wp frame (wpE (defs₀ (F := F)) Variants.none c none) E (cc1__nms_body arg0 harg0 arg1 harg1 arg2 harg2 arg3 harg3) K } := by
  refine ⟨?_, fun E K => ?run⟩
  case run =>
    simp only [cc1__nms_body_eq_skeleton]; unfold cc1__nms_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%d2, %f2, -, H2⟩, ⟨%ds0, %fs0, -, HS0⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    iexists _, _; isplitr; swap; · iexact HS0
    ipureintro; rfl

/-- The stores cover the result. -/
theorem nmsRun_cover (c : Dev nD) (arg0 : Memref sig .tc .vmem S1024x4 .f32) (harg0 : arg0.IsWhole) (arg1 : Memref sig .tc .vmem S4x1024 .f32) (harg1 : arg1.IsWhole) (arg2 : Memref sig .tc .vmem S8x1024 .f32) (harg2 : arg2.IsWhole) (arg3 : Memref sig .tc .vmem S1024x1024 .f32) (harg3 : arg3.IsWhole)
    (x0 : Vec F S1024x4 .f32) (x1 : Vec F S4x1024 .f32) (y : S8x1024.Idx) :
    ∃ pc ∈ (nmsRun c arg0 harg0 arg1 harg1 arg2 harg2 arg3 harg3 x0 x1).1, y ∈ pc.1.set :=
  View.cover_of_tiledL (nmsRun c arg0 harg0 arg1 harg1 arg2 harg2 arg3 harg3 x0 x1).1 S8x1024.size (by sl_kernel_rfl) y

section Region
variable (V : (c : Dev nD) → (b : Ref sig .tc) → Buf (Elt F) ((c : Thread nD τ).loc b))

/-- Window `w`'s block at point `t`, as the region finds its array. -/
def nblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand. -/
abbrev nscM : Memref sig .tc .vmem S1024x1024 .f32 := Memref.whole cc1_scratch0

/-- The result's buffer after the body at point `t`: the run's stores read back. -/
def nmsOut (c : Dev nD) (t : Fin cfg1.N) : Vec F S8x1024 .f32 :=
  View.canon (nmsRun c (win1_0.stage (cfg1.slots t 0)) (hstage1_0 0) (win1_1.stage (cfg1.slots t 1)) (hstage1_1 0) (win1_2.stage (cfg1.slots t 2)) (hstage1_2 0)
    nscM (Memref.isWhole_whole _) (nblk V c 0 t) (nblk V c 1 t)).1

theorem Phi1_eq (c : Dev nD) :
    (Pipeline.ΦA spec1 c : sProp 𝕄) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg13_0), ((c : Thread nD τ).loc cc0_stg13_0) ↦{fullShare} f) ∗ (∃ f : Buf (Elt F) ((c : Thread nD τ).loc cc0_stg14_0), ((c : Thread nD τ).loc cc0_stg14_0) ↦{fullShare} f) ∗ (∃ f : Buf (Elt F) ((c : Thread nD τ).loc cc0_scratch0), ((c : Thread nD τ).loc cc0_scratch0) ↦{fullShare} f) ∗ (∃ d, owns (c : Thread nD τ) nscM fullShare d)) ∗ (∃ r, prngReg c r)) := by
  unfold Pipeline.ΦA; rw [scopedRest1_eq]; simp only [nscM, owns_whole]; try rfl

/-- The region's proof data. -/
def ndat (c : Dev nD) : Dat τ (Elt F) Unit ℕ (UR sig nD τ) ℕ cfg1 c where
  A w := V c (Pipeline.arrRef spec1 w)
  after w t := match w with
    | ⟨0, _⟩ => nblk V c 0 t
    | ⟨1, _⟩ => nblk V c 1 t
    | ⟨2, _⟩ => nmsOut V c t
  Φ _ := Pipeline.ΦA spec1 c
  q _ := fullShare
  owed _ := 0

theorem ndat_A (c : Dev nD) (w : Fin cfg1.W) : (ndat V c).A w = V c (Pipeline.arrRef spec1 w) := by dsimp only [ndat]
theorem nafter_0 (c : Dev nD) (t : Fin cfg1.N) : (ndat V c).after 0 t = nblk V c 0 t := by dsimp only [ndat]
theorem nafter_1 (c : Dev nD) (t : Fin cfg1.N) : (ndat V c).after 1 t = nblk V c 1 t := by dsimp only [ndat]
theorem nafter_2 (c : Dev nD) (t : Fin cfg1.N) : (ndat V c).after 2 t = nmsOut V c t := by dsimp only [ndat]

theorem nbefore_0 (c : Dev nD) (t : Fin cfg1.N) (d) : (ndat V c).before 0 t d = nblk V c 0 t :=
  ((ndat V c).before_in_eq_fetched 0 rfl (fun _ => rfl) (fun _ _ _ => rfl)
    (fun t => by rw [nafter_0]; unfold Dat.blockOf nblk; rw [ndat_A]; try rfl) t d).trans
    (by unfold Dat.fetched Dat.blockOf nblk; rw [ndat_A]; try rfl)
theorem nbefore_1 (c : Dev nD) (t : Fin cfg1.N) (d) : (ndat V c).before 1 t d = nblk V c 1 t :=
  ((ndat V c).before_in_eq_fetched 1 rfl (fun _ => rfl) (fun _ _ _ => rfl)
    (fun t => by rw [nafter_1]; unfold Dat.blockOf nblk; rw [ndat_A]; try rfl) t d).trans
    (by unfold Dat.fetched Dat.blockOf nblk; rw [ndat_A]; try rfl)

/-- What the body is called with at point `t`, and what it returns. -/
def nPre (c : Dev nD) (t : Fin cfg1.N) : sProp 𝕄 :=
  iprop((ndat V c).Φ t.castSucc ∗ (ndat V c).owesAt () t.castSucc
    ∗ (∃ d, owns (c : Thread nD τ) (win1_0.stage (cfg1.slots t 0)) fullShare ((ndat V c).before 0 t d)) ∗ (∃ d, owns (c : Thread nD τ) (win1_1.stage (cfg1.slots t 1)) fullShare ((ndat V c).before 1 t d)) ∗ (∃ d, owns (c : Thread nD τ) (win1_2.stage (cfg1.slots t 2)) fullShare ((ndat V c).before 2 t d)))
def nPost (c : Dev nD) (t : Fin cfg1.N) : sProp 𝕄 :=
  iprop((ndat V c).Φ t.succ ∗ (ndat V c).owesAt () t.succ
    ∗ owns (c : Thread nD τ) (win1_0.stage (cfg1.slots t 0)) fullShare ((ndat V c).after 0 t) ∗ owns (c : Thread nD τ) (win1_1.stage (cfg1.slots t 1)) fullShare ((ndat V c).after 1 t) ∗ owns (c : Thread nD τ) (win1_2.stage (cfg1.slots t 2)) fullShare ((ndat V c).after 2 t))

theorem nsound (c : Dev nD) (t : Fin cfg1.N) :
    nPre V c t ⊢ wp frame (wpE (defs₀ (F := F)) Variants.none c none) Set.univ (bodyAt1 t) (fun _ => nPost V c t) := by
  unfold nPre nPost bodyAt1
  simp only [nbefore_0, nbefore_1]
  rw [show (ndat V c).Φ t.succ = (ndat V c).Φ t.castSucc from rfl,
    show (ndat V c).owesAt () t.succ = (ndat V c).owesAt () t.castSucc from rfl, nafter_0, nafter_1, nafter_2]
  rw [show (ndat V c).Φ t.castSucc = Pipeline.ΦA spec1 c from rfl, Phi1_eq]
  unfold nmsOut
  iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩⟩
  iapply ((nmsRun c _ _ _ _ _ _ _ _ (nblk V c 0 t) (nblk V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HR0 HR1 HR2 HR3 HR4 HR5 HR6 HR7 HR8 HR9 HR10 HR11 HR12 HR13 HR14 HR15 HR16 HR17 HS0 Hg]
  · isplitl [HR0 HR1 HR2 HR3 HR4 HR5 HR6 HR7 HR8 HR9 HR10 HR11 HR12 HR13 HR14 HR15 HR16 HR17 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      iexact HS0
    iexact Hg
  isplitl [Ho]; · iexact Ho
  isplitl [H0]; · iexact H0
  isplitl [H1]; · iexact H1
  unfold owns; iexists _; isplitr
  swap; · iexact H2
  ipureintro; exact View.read_writes_eq_canon _ _ _ (nmsRun_cover c _ _ _ _ _ _ _ _ _ _)

theorem nrow (t : Fin cfg1.N) : defs₀ (F := F) .tc cfg1.body (cfg1.bodyArgs t (cfg1.slots t)) = bodyAt1 t := by
  unfold defs₀; rw [Defs.onTc_tc]

/-- The region's body obligation. -/
theorem nbody (c : Dev nD) : BodyObligation (ndat (F := F) V c) (defs₀ (F := F)) Variants.none () Set.univ := fun t => by
  rw [bigSep_W1, bigSep_W1, nrow]
  exact triple_restated (nsound V c t) rfl .rfl fun _ => .rfl

end Region

end Cert.Proof.KernelIdeal

end
-- ==== Proof.KernelIdeal.Run.lean ====
/-
  `Cert.KernelIdeal`'s run from any memory: what each pallas_call leaves (`outs`), the two regions as segments of @main, and the
  run: every buffer of the host's at the end holds what the fold through @main says (`Gen.V17` at `outs`).
-/
module

public import proofs.«01_k».proof.Proof.KernelIdeal.HeadDat
public import proofs.«01_k».proof.Proof.KernelIdeal.NmsDat
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave -/

/-- The head's region: its arrays at what the pipeline's write-backs leave. -/
def outs0 : Outs (F := F) := fun _ r c =>
  Pipeline.withArrays spec0 c (V9 m c) (fun w => (hdat (fun c b => V9 m c b) c).arrAt w cfg0.N) r
/-- The suppression kernel's region likewise. -/
def outs1 : Outs (F := F) := fun _ r c =>
  Pipeline.withArrays spec1 c (V13 m (outs0 m) c) (fun w => (ndat (fun c b => V13 m (outs0 m) c b) c).arrAt w cfg1.N) r
/-- Both, by item. -/
def outs : Outs (F := F) := fun n r c => if n = 10 then outs0 m n r c else outs1 m n r c

theorem outs_10 (r : Ref sig .tc) (c : Dev nD) : outs m 10 r c = outs0 m 10 r c := rfl
theorem outs_14 (r : Ref sig .tc) (c : Dev nD) : outs m 14 r c = outs1 m 14 r c := rfl
theorem V10_outs (c : Dev nD) : V10 m (outs m) c = V10 m (outs0 m) c := by simp only [V10, outs_10]
theorem V13_outs (c : Dev nD) : V13 m (outs m) c = V13 m (outs0 m) c := by
  show StableHlo.after hostOps1_2 (StableHlo.after hostOps1_1 (StableHlo.after hostOps1 (V10 m (outs m) c))) = StableHlo.after hostOps1_2 (StableHlo.after hostOps1_1 (StableHlo.after hostOps1 (V10 m (outs0 m) c)))
  exact congrArg (fun W => StableHlo.after hostOps1_2 (StableHlo.after hostOps1_1 (StableHlo.after hostOps1 W))) (V10_outs m c)

theorem V10_out0 (o : Outs (F := F)) (c : Dev nD) : V10 m o c (Proc.devRef .tc main_v14_0) = o 10 main_v14_0 c := by
  unfold V10
  rw [Function.update_of_ne (StableHlo.devRef_ne_of_ne (by decide : main_v14_0 ≠ main_v14_4))]
  rw [Function.update_of_ne (StableHlo.devRef_ne_of_ne (by decide : main_v14_0 ≠ main_v14_3))]
  rw [Function.update_of_ne (StableHlo.devRef_ne_of_ne (by decide : main_v14_0 ≠ main_v14_2))]
  rw [Function.update_of_ne (StableHlo.devRef_ne_of_ne (by decide : main_v14_0 ≠ main_v14_1))]
  rw [Function.update_self]
theorem V10_out1 (o : Outs (F := F)) (c : Dev nD) : V10 m o c (Proc.devRef .tc main_v14_1) = o 10 main_v14_1 c := by
  unfold V10
  rw [Function.update_of_ne (StableHlo.devRef_ne_of_ne (by decide : main_v14_1 ≠ main_v14_4))]
  rw [Function.update_of_ne (StableHlo.devRef_ne_of_ne (by decide : main_v14_1 ≠ main_v14_3))]
  rw [Function.update_of_ne (StableHlo.devRef_ne_of_ne (by decide : main_v14_1 ≠ main_v14_2))]
  rw [Function.update_self]
theorem V10_out2 (o : Outs (F := F)) (c : Dev nD) : V10 m o c (Proc.devRef .tc main_v14_2) = o 10 main_v14_2 c := by
  unfold V10
  rw [Function.update_of_ne (StableHlo.devRef_ne_of_ne (by decide : main_v14_2 ≠ main_v14_4))]
  rw [Function.update_of_ne (StableHlo.devRef_ne_of_ne (by decide : main_v14_2 ≠ main_v14_3))]
  rw [Function.update_self]
theorem V10_out3 (o : Outs (F := F)) (c : Dev nD) : V10 m o c (Proc.devRef .tc main_v14_3) = o 10 main_v14_3 c := by
  unfold V10
  rw [Function.update_of_ne (StableHlo.devRef_ne_of_ne (by decide : main_v14_3 ≠ main_v14_4))]
  rw [Function.update_self]
theorem V10_out4 (o : Outs (F := F)) (c : Dev nD) : V10 m o c (Proc.devRef .tc main_v14_4) = o 10 main_v14_4 c := by
  unfold V10
  rw [Function.update_self]
theorem V14_out (o : Outs (F := F)) (c : Dev nD) : V14 m o c (Proc.devRef .tc main_v75) = o 14 main_v75 c := by
  unfold V14; rw [Function.update_self]

/-- The head's results at the region's exit. -/
theorem hOut (c : Dev nD) (w : Fin cfg0.W) :
    outs m 10 (Pipeline.arrRef spec0 w) c = (hdat (fun c b => V9 m c b) c).arrAt w cfg0.N := by
  rw [outs_10]; unfold outs0; exact Pipeline.withArrays_arr spec0 launch0.win.arr_inj c _ _ w
/-- The suppression kernel's result at the region's exit. -/
theorem nOut (c : Dev nD) (w : Fin cfg1.W) :
    outs m 14 (Pipeline.arrRef spec1 w) c = (ndat (fun c b => V13 m (outs m) c b) c).arrAt w cfg1.N := by
  rw [outs_14, show (fun (c : Dev nD) (b : Ref sig .tc) => V13 m (outs m) c (Proc.devRef .tc b)) = fun c b => V13 m (outs0 m) c (Proc.devRef .tc b) from
    funext fun c => funext fun b => congrFun (V13_outs m c) _]
  unfold outs1; exact Pipeline.withArrays_arr spec1 launch1.win.arr_inj c _ _ w

theorem hF0_in (c : Dev nD) (w : Fin cfg0.W) (h : (cfg0.win w).isOut = false)
    (hn : Pipeline.arrRef spec0 w ∉ ([main_v14_0, main_v14_1, main_v14_2, main_v14_3, main_v14_4] : List (Ref sig .tc))) :
    (hdat (fun c b => V9 m c b) c).arrAt w cfg0.N = V10 m (outs m) c (Pipeline.arrRef spec0 w) :=
  ((hdat (fun c b => V9 m c b) c).arrAt_in w h _).trans ((hdat_A (fun c b => V9 m c b) c w).trans (V10_of m (outs m) c _ hn).symm)
theorem hF1_in (c : Dev nD) (w : Fin cfg1.W) (h : (cfg1.win w).isOut = false)
    (hn : Pipeline.arrRef spec1 w ∉ ([main_v75] : List (Ref sig .tc))) :
    (ndat (fun c b => V13 m (outs m) c b) c).arrAt w cfg1.N = V14 m (outs m) c (Pipeline.arrRef spec1 w) :=
  ((ndat (fun c b => V13 m (outs m) c b) c).arrAt_in w h _).trans ((ndat_A (fun c b => V13 m (outs m) c b) c w).trans (V14_of m (outs m) c _ hn).symm)

set_option maxHeartbeats 4000000 in
theorem hF0 (c : Dev nD) (w : Fin cfg0.W) :
    (hdat (fun c b => V9 m c b) c).arrAt w cfg0.N = V10 m (outs m) c (Pipeline.arrRef spec0 w) := by
  match w with
  | ⟨0, _⟩ => exact hF0_in m c 0 rfl (by decide)
  | ⟨1, _⟩ => exact hF0_in m c 1 rfl (by decide)
  | ⟨2, _⟩ => exact hF0_in m c 2 rfl (by decide)
  | ⟨3, _⟩ => exact hF0_in m c 3 rfl (by decide)
  | ⟨4, _⟩ => exact hF0_in m c 4 rfl (by decide)
  | ⟨5, _⟩ => exact hF0_in m c 5 rfl (by decide)
  | ⟨6, _⟩ => exact hF0_in m c 6 rfl (by decide)
  | ⟨7, _⟩ => exact hF0_in m c 7 rfl (by decide)
  | ⟨8, _⟩ => exact hF0_in m c 8 rfl (by decide)
  | ⟨9, _⟩ => exact hF0_in m c 9 rfl (by decide)
  | ⟨10, _⟩ => exact (hOut m c 10).symm.trans (V10_out0 m (outs m) c).symm
  | ⟨11, _⟩ => exact (hOut m c 11).symm.trans (V10_out1 m (outs m) c).symm
  | ⟨12, _⟩ => exact (hOut m c 12).symm.trans (V10_out2 m (outs m) c).symm
  | ⟨13, _⟩ => exact (hOut m c 13).symm.trans (V10_out3 m (outs m) c).symm
  | ⟨14, _⟩ => exact (hOut m c 14).symm.trans (V10_out4 m (outs m) c).symm
theorem hrest0 (c : Dev nD) : ∀ b, b ∉ Finset.univ.image (Pipeline.arrRef spec0) → V10 m (outs m) c b = V9 m c b :=
  fun b hb => V10_of m (outs m) c b fun hm => hb (by
    simp only [List.mem_cons, List.not_mem_nil, or_false] at hm
    rcases hm with h | h | h | h | h
    · exact Finset.mem_image.mpr ⟨10, Finset.mem_univ _, h.symm⟩
    · exact Finset.mem_image.mpr ⟨11, Finset.mem_univ _, h.symm⟩
    · exact Finset.mem_image.mpr ⟨12, Finset.mem_univ _, h.symm⟩
    · exact Finset.mem_image.mpr ⟨13, Finset.mem_univ _, h.symm⟩
    · exact Finset.mem_image.mpr ⟨14, Finset.mem_univ _, h.symm⟩)
theorem hF1 (c : Dev nD) (w : Fin cfg1.W) :
    (ndat (fun c b => V13 m (outs m) c b) c).arrAt w cfg1.N = V14 m (outs m) c (Pipeline.arrRef spec1 w) := by
  match w with
  | ⟨0, _⟩ => exact hF1_in m c 0 rfl (by decide)
  | ⟨1, _⟩ => exact hF1_in m c 1 rfl (by decide)
  | ⟨2, _⟩ => exact (nOut m c 2).symm.trans (V14_out m (outs m) c).symm
theorem hrest1 (c : Dev nD) : ∀ b, b ∉ Finset.univ.image (Pipeline.arrRef spec1) → V14 m (outs m) c b = V13 m (outs m) c b :=
  fun b hb => V14_of m (outs m) c b fun hm => hb (by
    simp only [List.mem_cons, List.not_mem_nil, or_false] at hm
    exact Finset.mem_image.mpr ⟨2, Finset.mem_univ _, hm.symm⟩)

/-! ## The regions as segments -/

/-- Every pipeline's proof data, at its region's entry contents. -/
def pdats : (p : Fin 2) → (c : Dev nD) → Dat τ (Elt F) Unit ℕ (UR sig nD τ) ℕ (Pipeline.pin (pcfgs (F := F)) adm p) c
  | ⟨0, _⟩ => fun c => hdat (fun c b => V9 m c b) c
  | ⟨1, _⟩ => fun c => ndat (fun c b => V13 m (outs m) c b) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state, from the contents it is entered at to the contents it leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hbody (fun c b => V9 m c b) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V9 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V9 m c b) (hdat_A (fun c b => V9 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from hphi_in _ c]; unfold Pipeline.ΦA
    iintro ⟨Hp, -, Hr⟩
    isplitl [Hr]; · iexact Hr
    iexact Hp
  hout c := by
    rw [Pipeline.ownSems0_none]
    refine (hphi_out _ c : (pdats m 0 c).Φ (Fin.last _) ⊢ Pipeline.ΦA spec0 c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V9 m c b) (fun b => V10 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state, from the contents it is entered at to the contents it leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (nbody (fun c b => V13 m (outs m) c b) c).loose
  hwaits := Pipeline.hwaits_of_owed_zero _ _ _ _ L lv 1 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V13 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V13 m (outs m) c b) (ndat_A (fun c b => V13 m (outs m) c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m 1 c).Φ (Fin.last _) ⊢ Pipeline.ΦA spec1 c from BI.Entails.refl _) : (pdats m 1 c).Φ (Fin.last _) ⊢ Pipeline.ΦA spec1 c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V13 m (outs m) c b) (fun b => V14 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- @main's items as segments. -/
abbrev items : Dev nD → List (Seg (pcfgs (F := F)) adm (pdats m) () defs₀ 𝒱₀ L lv) :=
  segs m (outs m) 𝒱₀ L lv (fun _ c => R c) () (pdats m) (reg0 m) (reg1 m)

set_option backward.isDefEq.respectTransparency.types false in
/-- From any memory with zero counters every weakly fair execution of @main terminates, with every host buffer at what the
    fold through @main says and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = V17 m (outs m) c b) ∧ r.2.sem = fun _ => 0) :=
  Pipeline.θ_run_regions_kit_dev_sems (pcfgs (F := F)) adm (pdats m) () cellOf_inj emb₁ defs₀ 𝒱₀ L lv m ρ main (items m)
    (fun c Q => by
      rewrite [main_chain c, Seg.run_eq_chain,
        show (items m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2 ] from rfl]
      dsimp (config := { failIfUnchanged := false }) only
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨Hh, HSI⟩
      unfold StableHlo.held
      imodintro
      iapply (pointsTo_read_all (Pipeline.ucRefs τ sig) (fun b => (((c : Thread nD τ)).1, b)) (V17 m (outs m) c) s')
      isplitl [Hh] <;> iassumption)
    (hQ := fun _ h hz => ⟨h, funext fun g => hz g (.inr (regions_no_unscoped g.2))⟩)

/-- A host buffer is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments end as launched, the counters at zero, and the result holds what the fold says. -/
theorem run : θ_run defs (onTc (τ := τ) (main (F := F))) ⟨m, fun _ => 0, ρ⟩ (fun r => (∀ c : Dev nD,
      r.2.mem ((c.tc : Thread nD τ).loc main_v106) = V17 m (outs m) c (Proc.devRef .tc main_v106)

      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨h.1 c _ (mem_uc main_v106 (by decide)),
    (h.1 c _ (mem_uc main_arg0 (by decide))).trans (V17_main_arg0 m (outs m) c),
    (h.1 c _ (mem_uc main_arg1 (by decide))).trans (V17_main_arg1 m (outs m) c),
    (h.1 c _ (mem_uc main_arg2 (by decide))).trans (V17_main_arg2 m (outs m) c),
    (h.1 c _ (mem_uc main_arg3 (by decide))).trans (V17_main_arg3 m (outs m) c),
    (h.1 c _ (mem_uc main_arg4 (by decide))).trans (V17_main_arg4 m (outs m) c),
    (h.1 c _ (mem_uc main_arg5 (by decide))).trans (V17_main_arg5 m (outs m) c),
    (h.1 c _ (mem_uc main_arg6 (by decide))).trans (V17_main_arg6 m (outs m) c),
    (h.1 c _ (mem_uc main_arg7 (by decide))).trans (V17_main_arg7 m (outs m) c),
    (h.1 c _ (mem_uc main_arg8 (by decide))).trans (V17_main_arg8 m (outs m) c),
    (h.1 c _ (mem_uc main_arg9 (by decide))).trans (V17_main_arg9 m (outs m) c)⟩, h.2⟩) (run_all m ρ)

end Cert.Proof.KernelIdeal

end
-- ==== Proof.Reference.Run.lean ====
/-
  The reference's run from any memory, at any float values: its arguments end as launched and its counters at zero, and every
  host buffer at the fold through @main (`finalContents`).
-/
module

public import proofs.«01_k».proof.Proof.Gen.ReferenceIdeal.Run
public import Idealize.ShloMosaic.Lib.Quiescent

@[expose] public section

set_option maxRecDepth 16384

noncomputable section

namespace Cert.Proof.Reference

open Idealize.ShloMosaic Idealize.ShloMosaic.TcCoe Idealize.SL.Sem
open Idealize.ShloMosaic.StableHlo
open Cert.ReferenceIdeal Cert.ReferenceIdeal.Gen Cert.ReferenceIdeal.Value

variable {F : FTy → Type} [FloatOps F]

/-- @main's arguments. -/
abbrev argRefs : List (Ref sig .tc) := [main_arg0, main_arg1, main_arg2, main_arg3, main_arg4, main_arg5, main_arg6, main_arg7, main_arg8, main_arg9]

/-- The references `hostOps0_15` writes, in order. -/
abbrev hostOps0_15_W : List (Ref sig .tc) := [main_v214, main_cst_37]
theorem hostOps0_15_writes : (hostOps0_15 : List (HloOp τ sig (Elt F))).Forall fun op => op.writes ⊆ (hostOps0_15_W.map (Proc.devRef (τ := τ) .tc)).toFinset :=
  StableHlo.forall_writes_sub_of_map rfl

/-- The references `hostOps0_16` writes, in order. -/
abbrev hostOps0_16_W : List (Ref sig .tc) := [main_call7_v0, main_call7_v1, main_v215]
theorem hostOps0_16_writes : (hostOps0_16 : List (HloOp τ sig (Elt F))).Forall fun op => op.writes ⊆ (hostOps0_16_W.map (Proc.devRef (τ := τ) .tc)).toFinset :=
  StableHlo.forall_writes_sub_of_map rfl

/-- The references `hostOps0_17` writes, in order. -/
abbrev hostOps0_17_W : List (Ref sig .tc) := [main_values_38, main_indices_39, main_c_40, main_v216, main_v217, main_c_41, main_v218, main_v219, main_v220, main_v221, main_v222, main_c_42, main_v223, main_v224, main_c_43, main_v225, main_v226, main_v227, main_v228, main_v229, main_c_44, main_v230, main_v231, main_c_45, main_v232, main_v233, main_v234, main_v235, main_v236, main_v237, main_v238, main_v239, main_v240]
theorem hostOps0_17_writes : (hostOps0_17 : List (HloOp τ sig (Elt F))).Forall fun op => op.writes ⊆ (hostOps0_17_W.map (Proc.devRef (τ := τ) .tc)).toFinset :=
  StableHlo.forall_writes_sub_of_map rfl

/-- Stretches that each leave a buffer leave it together. -/
theorem afterL_keep (r : Ref sig .tc) : ∀ (items : List (List (HloOp τ sig (Elt F)))) (V : Valuation τ sig (Elt F)),
    (∀ ops ∈ items, ∀ V : Valuation τ sig (Elt F), after ops V (Proc.devRef .tc r) = V (Proc.devRef .tc r)) →
    afterL items V (Proc.devRef .tc r) = V (Proc.devRef .tc r)
  | [], _, _ => rfl
  | ops :: rest, V, h => (afterL_keep r rest _ fun o ho => h o (List.mem_cons_of_mem _ ho)).trans (h ops List.mem_cons_self V)

theorem hostOps0_arg (a : Ref sig .tc) (ha : a ∈ argRefs) (V : Valuation τ sig (Elt F)) :
    after hostOps0 V (Proc.devRef .tc a) = V (Proc.devRef .tc a) :=
  after_of_writes_sub hostOps0 _ hostOps0_writes ((by decide +kernel : ∀ a ∈ argRefs, a ∉ hostOps0_W) a ha)
theorem hostOps0_1_arg (a : Ref sig .tc) (ha : a ∈ argRefs) (V : Valuation τ sig (Elt F)) :
    after hostOps0_1 V (Proc.devRef .tc a) = V (Proc.devRef .tc a) :=
  after_of_writes_sub hostOps0_1 _ hostOps0_1_writes ((by decide +kernel : ∀ a ∈ argRefs, a ∉ hostOps0_1_W) a ha)
theorem hostOps0_2_arg (a : Ref sig .tc) (ha : a ∈ argRefs) (V : Valuation τ sig (Elt F)) :
    after hostOps0_2 V (Proc.devRef .tc a) = V (Proc.devRef .tc a) :=
  after_of_writes_sub hostOps0_2 _ hostOps0_2_writes ((by decide +kernel : ∀ a ∈ argRefs, a ∉ hostOps0_2_W) a ha)
theorem hostOps0_3_arg (a : Ref sig .tc) (ha : a ∈ argRefs) (V : Valuation τ sig (Elt F)) :
    after hostOps0_3 V (Proc.devRef .tc a) = V (Proc.devRef .tc a) :=
  after_of_writes_sub hostOps0_3 _ hostOps0_3_writes ((by decide +kernel : ∀ a ∈ argRefs, a ∉ hostOps0_3_W) a ha)
theorem hostOps0_4_arg (a : Ref sig .tc) (ha : a ∈ argRefs) (V : Valuation τ sig (Elt F)) :
    after hostOps0_4 V (Proc.devRef .tc a) = V (Proc.devRef .tc a) :=
  after_of_writes_sub hostOps0_4 _ hostOps0_4_writes ((by decide +kernel : ∀ a ∈ argRefs, a ∉ hostOps0_4_W) a ha)
theorem hostOps0_5_arg (a : Ref sig .tc) (ha : a ∈ argRefs) (V : Valuation τ sig (Elt F)) :
    after hostOps0_5 V (Proc.devRef .tc a) = V (Proc.devRef .tc a) :=
  after_of_writes_sub hostOps0_5 _ hostOps0_5_writes ((by decide +kernel : ∀ a ∈ argRefs, a ∉ hostOps0_5_W) a ha)
theorem hostOps0_6_arg (a : Ref sig .tc) (ha : a ∈ argRefs) (V : Valuation τ sig (Elt F)) :
    after hostOps0_6 V (Proc.devRef .tc a) = V (Proc.devRef .tc a) :=
  after_of_writes_sub hostOps0_6 _ hostOps0_6_writes ((by decide +kernel : ∀ a ∈ argRefs, a ∉ hostOps0_6_W) a ha)
theorem hostOps0_7_arg (a : Ref sig .tc) (ha : a ∈ argRefs) (V : Valuation τ sig (Elt F)) :
    after hostOps0_7 V (Proc.devRef .tc a) = V (Proc.devRef .tc a) :=
  after_of_writes_sub hostOps0_7 _ hostOps0_7_writes ((by decide +kernel : ∀ a ∈ argRefs, a ∉ hostOps0_7_W) a ha)
theorem hostOps0_8_arg (a : Ref sig .tc) (ha : a ∈ argRefs) (V : Valuation τ sig (Elt F)) :
    after hostOps0_8 V (Proc.devRef .tc a) = V (Proc.devRef .tc a) :=
  after_of_writes_sub hostOps0_8 _ hostOps0_8_writes ((by decide +kernel : ∀ a ∈ argRefs, a ∉ hostOps0_8_W) a ha)
theorem hostOps0_9_arg (a : Ref sig .tc) (ha : a ∈ argRefs) (V : Valuation τ sig (Elt F)) :
    after hostOps0_9 V (Proc.devRef .tc a) = V (Proc.devRef .tc a) :=
  after_of_writes_sub hostOps0_9 _ hostOps0_9_writes ((by decide +kernel : ∀ a ∈ argRefs, a ∉ hostOps0_9_W) a ha)
theorem hostOps0_10_arg (a : Ref sig .tc) (ha : a ∈ argRefs) (V : Valuation τ sig (Elt F)) :
    after hostOps0_10 V (Proc.devRef .tc a) = V (Proc.devRef .tc a) :=
  after_of_writes_sub hostOps0_10 _ hostOps0_10_writes ((by decide +kernel : ∀ a ∈ argRefs, a ∉ hostOps0_10_W) a ha)
theorem hostOps0_11_arg (a : Ref sig .tc) (ha : a ∈ argRefs) (V : Valuation τ sig (Elt F)) :
    after hostOps0_11 V (Proc.devRef .tc a) = V (Proc.devRef .tc a) :=
  after_of_writes_sub hostOps0_11 _ hostOps0_11_writes ((by decide +kernel : ∀ a ∈ argRefs, a ∉ hostOps0_11_W) a ha)
theorem hostOps0_12_arg (a : Ref sig .tc) (ha : a ∈ argRefs) (V : Valuation τ sig (Elt F)) :
    after hostOps0_12 V (Proc.devRef .tc a) = V (Proc.devRef .tc a) :=
  after_of_writes_sub hostOps0_12 _ hostOps0_12_writes ((by decide +kernel : ∀ a ∈ argRefs, a ∉ hostOps0_12_W) a ha)
theorem hostOps0_13_arg (a : Ref sig .tc) (ha : a ∈ argRefs) (V : Valuation τ sig (Elt F)) :
    after hostOps0_13 V (Proc.devRef .tc a) = V (Proc.devRef .tc a) :=
  after_of_writes_sub hostOps0_13 _ hostOps0_13_writes ((by decide +kernel : ∀ a ∈ argRefs, a ∉ hostOps0_13_W) a ha)
theorem hostOps0_14_arg (a : Ref sig .tc) (ha : a ∈ argRefs) (V : Valuation τ sig (Elt F)) :
    after hostOps0_14 V (Proc.devRef .tc a) = V (Proc.devRef .tc a) :=
  after_of_writes_sub hostOps0_14 _ hostOps0_14_writes ((by decide +kernel : ∀ a ∈ argRefs, a ∉ hostOps0_14_W) a ha)
theorem hostOps0_15_arg (a : Ref sig .tc) (ha : a ∈ argRefs) (V : Valuation τ sig (Elt F)) :
    after hostOps0_15 V (Proc.devRef .tc a) = V (Proc.devRef .tc a) :=
  after_of_writes_sub hostOps0_15 _ hostOps0_15_writes ((by decide +kernel : ∀ a ∈ argRefs, a ∉ hostOps0_15_W) a ha)
theorem hostOps0_16_arg (a : Ref sig .tc) (ha : a ∈ argRefs) (V : Valuation τ sig (Elt F)) :
    after hostOps0_16 V (Proc.devRef .tc a) = V (Proc.devRef .tc a) :=
  after_of_writes_sub hostOps0_16 _ hostOps0_16_writes ((by decide +kernel : ∀ a ∈ argRefs, a ∉ hostOps0_16_W) a ha)
theorem hostOps0_17_arg (a : Ref sig .tc) (ha : a ∈ argRefs) (V : Valuation τ sig (Elt F)) :
    after hostOps0_17 V (Proc.devRef .tc a) = V (Proc.devRef .tc a) :=
  after_of_writes_sub hostOps0_17 _ hostOps0_17_writes ((by decide +kernel : ∀ a ∈ argRefs, a ∉ hostOps0_17_W) a ha)
theorem while0Ops0_arg (a : Ref sig .tc) (ha : a ∈ argRefs) (V : Valuation τ sig (Elt F)) :
    after while0Ops0 V (Proc.devRef .tc a) = V (Proc.devRef .tc a) :=
  after_of_writes_sub while0Ops0 _ while0Ops0_writes ((by decide +kernel : ∀ a ∈ argRefs, a ∉ while0Ops0_W) a ha)

theorem condOps_arg (a : Ref sig .tc) (ha : a ∈ argRefs) (V : Valuation τ sig (Elt F)) :
    after condOps V (Proc.devRef .tc a) = V (Proc.devRef .tc a) :=
  after_of_writes_sub condOps _ (StableHlo.forall_writes_sub_of_map rfl : (condOps : List (HloOp τ sig (Elt F))).Forall fun op => op.writes ⊆ (condOps_W.map (Proc.devRef (τ := τ) .tc)).toFinset)
    ((by decide +kernel : ∀ a ∈ argRefs, a ∉ condOps_W) a ha)

theorem pre_arg (a : Ref sig .tc) (ha : a ∈ argRefs) : ∀ ops ∈ (preI : List (List (HloOp τ sig (Elt F)))),
    ∀ V : Valuation τ sig (Elt F), after ops V (Proc.devRef .tc a) = V (Proc.devRef .tc a) := by
  intro ops h V
  simp only [preI, List.mem_cons, List.not_mem_nil, or_false] at h
  rcases h with rfl | rfl | rfl | rfl | rfl | rfl | rfl | rfl | rfl | rfl | rfl | rfl | rfl | rfl | rfl
  · exact hostOps0_arg a ha V
  · exact hostOps0_1_arg a ha V
  · exact hostOps0_2_arg a ha V
  · exact hostOps0_3_arg a ha V
  · exact hostOps0_4_arg a ha V
  · exact hostOps0_5_arg a ha V
  · exact hostOps0_6_arg a ha V
  · exact hostOps0_7_arg a ha V
  · exact hostOps0_8_arg a ha V
  · exact hostOps0_9_arg a ha V
  · exact hostOps0_10_arg a ha V
  · exact hostOps0_11_arg a ha V
  · exact hostOps0_12_arg a ha V
  · exact hostOps0_13_arg a ha V
  · exact hostOps0_14_arg a ha V
theorem post_arg (a : Ref sig .tc) (ha : a ∈ argRefs) : ∀ ops ∈ (postI : List (List (HloOp τ sig (Elt F)))),
    ∀ V : Valuation τ sig (Elt F), after ops V (Proc.devRef .tc a) = V (Proc.devRef .tc a) := by
  intro ops h V
  simp only [postI, List.mem_cons, List.not_mem_nil, or_false] at h
  rcases h with rfl | rfl | rfl
  · exact hostOps0_15_arg a ha V
  · exact hostOps0_16_arg a ha V
  · exact hostOps0_17_arg a ha V

variable (m : (ℓ : Loc nD τ sig) → Buf (Elt F) ℓ) (ρ : Dev nD → PrngReg)

theorem atTrip_arg (a : Ref sig .tc) (ha : a ∈ argRefs) (c : Dev nD) : ∀ k,
    atTrip condOps bodyI (entryContents preI m) k c (Proc.devRef .tc a) = m ((c.tc : Thread nD τ).loc a)
  | 0 => afterL_keep a preI _ (pre_arg a ha)
  | k + 1 => (while0Ops0_arg a ha _).trans ((condOps_arg a ha _).trans (atTrip_arg a ha c k))

/-- An argument ends as launched. -/
theorem final_arg (a : Ref sig .tc) (ha : a ∈ argRefs) (c : Dev nD) :
    finalContents condOps preI bodyI postI 1000 m c (Proc.devRef .tc a) = m ((c.tc : Thread nD τ).loc a) :=
  (afterL_keep a postI _ (post_arg a ha)).trans ((condOps_arg a ha _).trans (atTrip_arg m a ha c 1000))

/-- The result buffer at the end. -/
def result (c : Dev nD) : Buf (Elt F) ((c.tc : Thread nD τ).loc main_v240) :=
  finalContents condOps preI bodyI postI 1000 m c (Proc.devRef .tc main_v240)

/-- The arguments end as launched, the counters at zero, and the result holds what the fold says. -/
theorem run : θ_run defs (onTc (τ := τ) (main (F := F))) ⟨m, fun _ => 0, ρ⟩ (fun r => (∀ c : Dev nD,
      r.2.mem ((c.tc : Thread nD τ).loc main_v240) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨h c main_v240 (by decide),
    (h c main_arg0 (by decide)).trans (final_arg m main_arg0 (by decide) c),
    (h c main_arg1 (by decide)).trans (final_arg m main_arg1 (by decide) c),
    (h c main_arg2 (by decide)).trans (final_arg m main_arg2 (by decide) c),
    (h c main_arg3 (by decide)).trans (final_arg m main_arg3 (by decide) c),
    (h c main_arg4 (by decide)).trans (final_arg m main_arg4 (by decide) c),
    (h c main_arg5 (by decide)).trans (final_arg m main_arg5 (by decide) c),
    (h c main_arg6 (by decide)).trans (final_arg m main_arg6 (by decide) c),
    (h c main_arg7 (by decide)).trans (final_arg m main_arg7 (by decide) c),
    (h c main_arg8 (by decide)).trans (final_arg m main_arg8 (by decide) c),
    (h c main_arg9 (by decide)).trans (final_arg m main_arg9 (by decide) c)⟩, sem_eq_zero_of_no_sems (by decide) _⟩) (run_fold m ρ)

end Cert.Proof.Reference

end
-- ==== Proof.Value.Spec.lean ====
/-
  The detection head over the extended reals, as scalar functions of an index: the two hidden activations, the class logits, the
  softmax probability, the score a candidate is ranked by, and the four coordinates of a class's decoded box.
-/
module

public import Idealize.ShloMosaic.Lib.Pointwise

@[expose] public section

set_option maxRecDepth 16384

noncomputable section

namespace Cert.Proof.Value

open Idealize.ShloMosaic

/-- A two-axis vector as a function of its row and its column. -/
def mat {a b : ℕ} (x : FVec Ideal ⟨2, ![a, b]⟩ .f32) : Fin a → Fin b → EReal := fun r l => x (ix2 r l)
/-- A one-axis vector as a function of its place. -/
def vec {a : ℕ} (x : FVec Ideal ⟨1, ![a]⟩ .f32) : Fin a → EReal := fun r => x (ix1 r)
/-- The features of a proposal, its three axes laid out in one. -/
def feat (x : FVec Ideal ⟨4, ![1000, 256, 7, 7]⟩ .f32) : Fin 1000 → Fin 12544 → EReal := fun r k =>
  x (ix4 r ⟨k.val / 49, by omega⟩ ⟨k.val / 7 % 7, by omega⟩ ⟨k.val % 7, by omega⟩)

/-- A layer: the product with the weights' transpose, plus the bias. -/
def affine {n a b : ℕ} (x : Fin n → Fin a → EReal) (w : Fin b → Fin a → EReal) (bias : Fin b → EReal) (r : Fin n) (l : Fin b) : EReal :=
  (∑ k, x r k * w l k) + bias l
/-- The same with negative entries cut to 0. -/
def hidden {n a b : ℕ} (x : Fin n → Fin a → EReal) (w : Fin b → Fin a → EReal) (bias : Fin b → EReal) (r : Fin n) (l : Fin b) : EReal :=
  max (affine x w bias r l) 0

/-- The greatest logit. -/
def peak {n : ℕ} (z : Fin n → EReal) : EReal := Finset.univ.fold max ⊥ z
/-- The softmax probability. -/
def prob {n : ℕ} (z : Fin n → EReal) (c : Fin n) : EReal :=
  Ideal.div (Ideal.exp (z c - peak z)) (∑ k, Ideal.exp (z k - peak z))
/-- The score a candidate is ranked by: its probability where that passes the threshold, −1 elsewhere. -/
def score (p : EReal) : EReal := if Ideal.ofBits .f32 0x3DCCCCCD#32 < p then p else Ideal.ofBits .f32 0xBF800000#32

/-- The size factor of a box's side. -/
def grow (e : EReal) : EReal := Ideal.exp (min (Ideal.div e (Ideal.ofBits .f32 0x40A00000#32)) (Ideal.ofBits .f32 0x408451EC#32))
/-- The middle of a side that runs from `p` to `q`, moved by `d`. -/
def middle (d p q : EReal) : EReal :=
  Ideal.div d (Ideal.ofBits .f32 0x41200000#32) * (q - p) + (p + Ideal.ofBits .f32 0x3F000000#32 * (q - p))
/-- The lower end of the decoded side, kept between 0 and `top`. -/
def lower (top d e p q : EReal) : EReal :=
  min top (max 0 (middle d p q - Ideal.ofBits .f32 0x3F000000#32 * (grow e * (q - p))))
/-- The upper end of the decoded side, kept between 0 and `top`. -/
def upper (top d e p q : EReal) : EReal :=
  min top (max 0 (middle d p q + Ideal.ofBits .f32 0x3F000000#32 * (grow e * (q - p))))

/-- The four coordinates of class `c`'s box of proposal `p`, from the regression row `d` (four entries a class). -/
def box (d : Fin 364 → EReal) (p : Fin 4 → EReal) (c : Fin 91) : Fin 4 → EReal
  | 0 => lower (Ideal.ofBits .f32 0x44854000#32) (d ⟨c.val * 4, by omega⟩) (d ⟨c.val * 4 + 2, by omega⟩) (p 0) (p 2)
  | 1 => lower (Ideal.ofBits .f32 0x44480000#32) (d ⟨c.val * 4 + 1, by omega⟩) (d ⟨c.val * 4 + 3, by omega⟩) (p 1) (p 3)
  | 2 => upper (Ideal.ofBits .f32 0x44854000#32) (d ⟨c.val * 4, by omega⟩) (d ⟨c.val * 4 + 2, by omega⟩) (p 0) (p 2)
  | 3 => upper (Ideal.ofBits .f32 0x44480000#32) (d ⟨c.val * 4 + 1, by omega⟩) (d ⟨c.val * 4 + 3, by omega⟩) (p 1) (p 3)

end Cert.Proof.Value
-- ==== Proof.Value.Padded.lean ====
/-
  A softmax over padded classes: entries at −∞ neither raise the greatest logit nor add to the sum of exponentials.
-/
module

public import proofs.«01_k».proof.Proof.Value.Spec

@[expose] public section

set_option maxRecDepth 16384

noncomputable section

namespace Cert.Proof.Value

open Idealize.ShloMosaic

/-- The class `c` among the 128 lanes. -/
def lane (c : Fin 91) : Fin 128 := c.castLE (by decide)

variable (z' : Fin 128 → EReal) (z : Fin 91 → EReal) (h1 : ∀ c, z' (lane c) = z c) (h2 : ∀ x : Fin 128, 91 ≤ x.val → z' x = ⊥)

include h1 h2

theorem peak_pad : peak z' = peak z := by
  show Finset.univ.sup z' = Finset.univ.sup z
  apply le_antisymm
  · refine Finset.sup_le fun x _ => ?_
    by_cases hx : x.val < 91
    · have : x = lane ⟨x.val, hx⟩ := Fin.ext rfl
      rw [this, h1]
      exact Finset.le_sup (f := z) (Finset.mem_univ _)
    · rw [h2 x (by omega)]
      exact bot_le
  · refine Finset.sup_le fun c _ => ?_
    rw [← h1]
    exact Finset.le_sup (f := z') (Finset.mem_univ _)

theorem sum_pad (p : EReal) : ∑ k, Ideal.exp (z' k - p) = ∑ k, Ideal.exp (z k - p) := by
  refine (Fin.sum_univ_add (a := 91) (b := 37) (fun k : Fin (91 + 37) => Ideal.exp (z' k - p))).trans ?_
  have e1 : ∀ c : Fin 91, z' (Fin.castAdd 37 c) = z c := h1
  have e2 : ∀ j : Fin 37, Ideal.exp (z' (Fin.natAdd 91 j) - p) = 0 := fun j => by
    rw [h2 (Fin.natAdd 91 j) (by simp [Fin.natAdd]), sub_eq_add_neg, EReal.bot_add]
    rfl
  simp only [e1, e2, Finset.sum_const_zero, add_zero]

theorem prob_pad (c : Fin 91) : prob z' (lane c) = prob z c := by
  unfold prob
  rw [peak_pad z' z h1 h2, sum_pad z' z h1 h2, h1]

end Cert.Proof.Value
-- ==== Proof.Value.KerPrefix.lean ====
/-
  The kernel's host prefix: the padded and relaid weights and biases, read at the entries of the real classes.
-/
module

public import proofs.«01_k».proof.Proof.KernelIdeal.Run
public import proofs.«01_k».proof.Proof.Value.Padded
public import Idealize.ShloMosaic.Lib.StableHlo.ReadAt

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen
open Cert.Proof.Value

section
variable (V : Valuation τ sig (Elt Ideal))

/-- A three-axis vector as a function of its places. -/
def ten {a b d : ℕ} (x : FVec Ideal ⟨3, ![a, b, d]⟩ .f32) : Fin a → Fin b → Fin d → EReal := fun i j k => x (ix3 i j k)

theorem pre_v0 (r : Fin 1000) (k : Fin 12544) : mat (a := 1000) (b := 12544) (after hostOps0 V (Proc.devRef .tc main_v0)) r k = feat (V (Proc.devRef .tc main_arg0)) r k := by
  unfold mat feat
  after_reads_at
theorem pre_v1 (c : Fin 91) (k : Fin 1024) : mat (a := 128) (b := 1024) (after hostOps0_1 V (Proc.devRef .tc main_v1)) (lane c) k = mat (a := 91) (b := 1024) (V (Proc.devRef .tc main_arg6)) c k := by
  unfold mat lane
  after_reads_at
  exact dif_pos c.isLt
theorem pre_v2 (c : Fin 91) : vec (a := 128) (after hostOps0_3 V (Proc.devRef .tc main_v2)) (lane c) = vec (a := 91) (V (Proc.devRef .tc main_arg7)) c := by
  unfold vec lane
  after_reads_at
  exact dif_pos c.isLt
theorem pre_v3 (x : Fin 128) : mat (a := 1) (b := 128) (after hostOps0_4 V (Proc.devRef .tc main_v3)) 0 x = vec (a := 128) (V (Proc.devRef .tc main_v2)) x := by
  unfold mat vec
  after_reads_at
theorem pre_v4 (c : Fin 91) (q : Fin 4) (k : Fin 1024) : ten (a := 91) (b := 4) (d := 1024) (after hostOps0_4 V (Proc.devRef .tc main_v4)) c q k
    = mat (a := 364) (b := 1024) (V (Proc.devRef .tc main_arg8)) ⟨c.val * 4 + q.val, by omega⟩ k := by
  unfold ten mat
  after_reads_at
theorem pre_v5 (c : Fin 91) (q : Fin 4) (k : Fin 1024) : ten (a := 128) (b := 4) (d := 1024) (after hostOps0_5 V (Proc.devRef .tc main_v5)) (lane c) q k
    = ten (a := 91) (b := 4) (d := 1024) (V (Proc.devRef .tc main_v4)) c q k := by
  unfold ten lane
  after_reads_at
  exact dif_pos c.isLt
theorem pre_v7 (x : Fin 128) (q : Fin 4) (k : Fin 1024) : mat (a := 512) (b := 1024) (after hostOps0_6 V (Proc.devRef .tc main_v7)) ⟨q.val * 128 + x.val, by omega⟩ k
    = ten (a := 128) (b := 4) (d := 1024) (V (Proc.devRef .tc main_v5)) x q k := by
  unfold ten mat
  after_reads_at
theorem pre_v8 (c : Fin 91) (q : Fin 4) : mat (a := 91) (b := 4) (after hostOps0_6 V (Proc.devRef .tc main_v8)) c q
    = vec (a := 364) (V (Proc.devRef .tc main_arg9)) ⟨c.val * 4 + q.val, by omega⟩ := by
  unfold mat vec
  after_reads_at
theorem pre_v9 (c : Fin 91) (q : Fin 4) : mat (a := 128) (b := 4) (after hostOps0_7 V (Proc.devRef .tc main_v9)) (lane c) q
    = mat (a := 91) (b := 4) (V (Proc.devRef .tc main_v8)) c q := by
  unfold mat lane
  after_reads_at
  exact dif_pos c.isLt
theorem pre_v11 (x : Fin 128) (q : Fin 4) : mat (a := 1) (b := 512) (after hostOps0_8 V (Proc.devRef .tc main_v11)) 0 ⟨q.val * 128 + x.val, by omega⟩
    = mat (a := 128) (b := 4) (V (Proc.devRef .tc main_v9)) x q := by
  unfold mat
  after_reads_at
theorem pre_v12 (l : Fin 1024) : mat (a := 1) (b := 1024) (after hostOps0_8 V (Proc.devRef .tc main_v12)) 0 l = vec (a := 1024) (V (Proc.devRef .tc main_arg3)) l := by
  unfold mat vec
  after_reads_at
theorem pre_v13 (l : Fin 1024) : mat (a := 1) (b := 1024) (after hostOps0_8 V (Proc.devRef .tc main_v13)) 0 l = vec (a := 1024) (V (Proc.devRef .tc main_arg5)) l := by
  unfold mat vec
  after_reads_at

end

/-! ## At the head kernel's entry -/

variable (m : (ℓ : Loc nD τ sig) → Buf (Elt Ideal) ℓ) (c : Dev nD)

theorem V9_v0 (r : Fin 1000) (k : Fin 12544) : mat (a := 1000) (b := 12544) (V9 m c (Proc.devRef .tc main_v0)) r k = feat (V0 m c (Proc.devRef .tc main_arg0)) r k := by
  rw [V9_of m c main_v0 (by decide), V8_of m c main_v0 (by decide), V7_of m c main_v0 (by decide), V6_of m c main_v0 (by decide), V5_of m c main_v0 (by decide),
    V4_of m c main_v0 (by decide), V3_of m c main_v0 (by decide), V2_of m c main_v0 (by decide)]
  exact pre_v0 _ r k
theorem V9_v1 (x : Fin 91) (k : Fin 1024) : mat (a := 128) (b := 1024) (V9 m c (Proc.devRef .tc main_v1)) (lane x) k = mat (a := 91) (b := 1024) (V0 m c (Proc.devRef .tc main_arg6)) x k := by
  rw [V9_of m c main_v1 (by decide), V8_of m c main_v1 (by decide), V7_of m c main_v1 (by decide), V6_of m c main_v1 (by decide), V5_of m c main_v1 (by decide),
    V4_of m c main_v1 (by decide), V3_of m c main_v1 (by decide)]
  refine (pre_v1 _ x k).trans ?_
  rw [V1_of m c main_arg6 (by decide)]
theorem V9_v3 (x : Fin 91) : mat (a := 1) (b := 128) (V9 m c (Proc.devRef .tc main_v3)) 0 (lane x) = vec (a := 91) (V0 m c (Proc.devRef .tc main_arg7)) x := by
  rw [V9_of m c main_v3 (by decide), V8_of m c main_v3 (by decide), V7_of m c main_v3 (by decide), V6_of m c main_v3 (by decide)]
  refine (pre_v3 _ (lane x)).trans ((pre_v2 _ x).trans ?_)
  rw [V3_of m c main_arg7 (by decide), V2_of m c main_arg7 (by decide), V1_of m c main_arg7 (by decide)]
theorem V9_v7 (x : Fin 91) (q : Fin 4) (k : Fin 1024) : mat (a := 512) (b := 1024) (V9 m c (Proc.devRef .tc main_v7)) ⟨q.val * 128 + x.val, by omega⟩ k
    = mat (a := 364) (b := 1024) (V0 m c (Proc.devRef .tc main_arg8)) ⟨x.val * 4 + q.val, by omega⟩ k := by
  rw [V9_of m c main_v7 (by decide), V8_of m c main_v7 (by decide)]
  refine (pre_v7 _ (lane x) q k).trans ((pre_v5 _ x q k).trans ((pre_v4 _ x q k).trans ?_))
  rw [V4_of m c main_arg8 (by decide), V3_of m c main_arg8 (by decide), V2_of m c main_arg8 (by decide), V1_of m c main_arg8 (by decide)]
theorem V9_v11 (x : Fin 91) (q : Fin 4) : mat (a := 1) (b := 512) (V9 m c (Proc.devRef .tc main_v11)) 0 ⟨q.val * 128 + x.val, by omega⟩
    = vec (a := 364) (V0 m c (Proc.devRef .tc main_arg9)) ⟨x.val * 4 + q.val, by omega⟩ := by
  refine (pre_v11 _ (lane x) q).trans ((pre_v9 _ x q).trans ((pre_v8 _ x q).trans ?_))
  rw [V6_of m c main_arg9 (by decide), V5_of m c main_arg9 (by decide), V4_of m c main_arg9 (by decide), V3_of m c main_arg9 (by decide), V2_of m c main_arg9 (by decide), V1_of m c main_arg9 (by decide)]
theorem V9_v12 (l : Fin 1024) : mat (a := 1) (b := 1024) (V9 m c (Proc.devRef .tc main_v12)) 0 l = vec (a := 1024) (V0 m c (Proc.devRef .tc main_arg3)) l := by
  refine (pre_v12 _ l).trans ?_
  rw [V8_of m c main_arg3 (by decide), V7_of m c main_arg3 (by decide), V6_of m c main_arg3 (by decide), V5_of m c main_arg3 (by decide), V4_of m c main_arg3 (by decide), V3_of m c main_arg3 (by decide), V2_of m c main_arg3 (by decide), V1_of m c main_arg3 (by decide)]
theorem V9_v13 (l : Fin 1024) : mat (a := 1) (b := 1024) (V9 m c (Proc.devRef .tc main_v13)) 0 l = vec (a := 1024) (V0 m c (Proc.devRef .tc main_arg5)) l := by
  refine (pre_v13 _ l).trans ?_
  rw [V8_of m c main_arg5 (by decide), V7_of m c main_arg5 (by decide), V6_of m c main_arg5 (by decide), V5_of m c main_arg5 (by decide), V4_of m c main_arg5 (by decide), V3_of m c main_arg5 (by decide), V2_of m c main_arg5 (by decide), V1_of m c main_arg5 (by decide)]
/-- An argument the prefix leaves. -/
theorem V9_arg (r : Ref sig .tc) (h : r ∈ [main_arg1, main_arg2, main_arg4]) : V9 m c (Proc.devRef .tc r) = V0 m c (Proc.devRef .tc r) := by
  simp only [List.mem_cons, List.not_mem_nil, or_false] at h
  rcases h with rfl | rfl | rfl <;>
  · rw [V9_of m c _ (by decide), V8_of m c _ (by decide), V7_of m c _ (by decide), V6_of m c _ (by decide), V5_of m c _ (by decide),
      V4_of m c _ (by decide), V3_of m c _ (by decide), V2_of m c _ (by decide), V1_of m c _ (by decide)]

end Cert.Proof.KernelIdeal
-- ==== Proof.Value.KerScalar.lean ====
/-
  What the head kernel's body computes over the extended reals, as the scalar functions of `Value/Spec`: at the lanes of the
  real classes its score and its four coordinates are the head's, and every other lane's score is −2.
-/
module

public import proofs.«01_k».proof.Proof.KernelIdeal.HeadDat
public import proofs.«01_k».proof.Proof.Value.Padded

@[expose] public section

set_option maxRecDepth 16384

noncomputable section

namespace Cert.Proof.KernelIdeal

open Idealize.ShloMosaic Idealize.ShloMosaic.TcCoe
open Cert.KernelIdeal Cert.KernelIdeal.Gen
open Cert.Proof.Value

theorem mask_bot : (Named.named κ "mask" 0xF149F2CA#32 : Ideal .f32) = (⊥ : EReal) := rfl
theorem neg_inf : Ideal.ofBits .f32 0xFF800000#32 = (⊥ : EReal) := by simp [Ideal.ofBits, Ideal.ieee]

/-- The second hidden activation. -/
theorem hid_apply (acc : FVec Ideal S1000x1024 .f32) (x2 : FVec Ideal S1x1024 .f32) (x3 : FVec Ideal S1024x1024 .f32) (x4 : FVec Ideal S1x1024 .f32) (r : Fin 1000) (l : Fin 1024) :
    mat (a := 1000) (b := 1024) (hid (F := Ideal) acc x2 x3 x4) r l
      = Cert.Proof.Value.hidden (fun r k => max (mat (a := 1000) (b := 1024) acc r k + mat (a := 1) (b := 1024) x2 0 k) 0) (mat (a := 1024) (b := 1024) x3) (mat (a := 1) (b := 1024) x4 0) r l := by
  unfold mat Cert.Proof.Value.hidden affine
  pointwise [hid, k0_pay5]

/-- The logit of lane `x`: the class's where it is a class, −∞ plus the bias elsewhere. -/
def laneLogit (h : FVec Ideal S1000x1024 .f32) (x5 : FVec Ideal S128x1024 .f32) (x6 : FVec Ideal S1x128 .f32) (r : Fin 1000) (x : Fin 128) : EReal :=
  (∑ k, mat (a := 1000) (b := 1024) h r k * mat (a := 128) (b := 1024) x5 x k)
    + Scalar.select (IntOp.cmpi .slt (BitVec.ofNat 32 x.val) 91#32) (mat (a := 1) (b := 128) x6 0 x) (Named.named κ "mask" 0xF149F2CA#32 : Ideal .f32)

theorem laneLogit_real (h x5 x6 r) (c : Fin 91) (wc : Fin 91 → Fin 1024 → EReal) (bc : Fin 91 → EReal)
    (hw : ∀ k, mat (a := 128) (b := 1024) x5 (lane c) k = wc c k) (hb : mat (a := 1) (b := 128) x6 0 (lane c) = bc c) :
    laneLogit h x5 x6 r (lane c) = affine (mat (a := 1000) (b := 1024) h) wc bc r c := by
  have hc : IntOp.cmpi .slt (BitVec.ofNat 32 (lane c).val) 91#32 = 1#1 := by
    clear hw hb
    revert c; unfold lane; decide
  unfold laneLogit affine
  rw [hc, hb]
  refine congrArg₂ (· + ·) (Finset.sum_congr rfl fun k _ => by rw [hw]) rfl
theorem laneLogit_pad (h x5 x6 r) (x : Fin 128) (hx : 91 ≤ x.val) : laneLogit h x5 x6 r x = ⊥ := by
  have hc : IntOp.cmpi .slt (BitVec.ofNat 32 x.val) 91#32 = 0#1 := by
    revert x; decide
  unfold laneLogit
  rw [hc]
  exact EReal.add_bot _

/-- Lane `x` is a class other than the background. -/
def live (x : Fin 128) : Prop := 1 ≤ x.val ∧ x.val < 91

theorem headScore_apply (acc x2 x3 x4 x5 x6) (r : Fin 1000) (l : Fin 128) :
    mat (a := 1000) (b := 128) (headScore (F := Ideal) acc x2 x3 x4 x5 x6) r l
      = Scalar.select (IntOp.andi (IntOp.cmpi .sge (BitVec.ofNat 32 l.val) 1#32) (IntOp.cmpi .slt (BitVec.ofNat 32 l.val) 91#32))
          (score (prob (laneLogit (hid (F := Ideal) acc x2 x3 x4) x5 x6 r) l)) (Ideal.ofBits .f32 0xC0000000#32) := by
  unfold score prob peak laneLogit hid mat
  rw [← neg_inf]
  pointwise [headScore, k0_pay6, k0_pay7, k0_pay8]

theorem headScore_pad (acc x2 x3 x4 x5 x6) (r : Fin 1000) (l : Fin 128) (hl : ¬(1 ≤ l.val ∧ l.val < 91)) :
    mat (a := 1000) (b := 128) (headScore (F := Ideal) acc x2 x3 x4 x5 x6) r l = Ideal.ofBits .f32 0xC0000000#32 := by
  rw [headScore_apply, show IntOp.andi (IntOp.cmpi .sge (BitVec.ofNat 32 l.val) 1#32) (IntOp.cmpi .slt (BitVec.ofNat 32 l.val) 91#32) = 0#1 from by revert l; decide]
  rfl
theorem headScore_real (acc x2 x3 x4 x5 x6) (r : Fin 1000) (c : Fin 91) (hc : 1 ≤ c.val) (wc : Fin 91 → Fin 1024 → EReal) (bc : Fin 91 → EReal)
    (hw : ∀ c k, mat (a := 128) (b := 1024) x5 (lane c) k = wc c k) (hb : ∀ c, mat (a := 1) (b := 128) x6 0 (lane c) = bc c) :
    mat (a := 1000) (b := 128) (headScore (F := Ideal) acc x2 x3 x4 x5 x6) r (lane c)
      = score (prob (affine (mat (a := 1000) (b := 1024) (hid (F := Ideal) acc x2 x3 x4)) wc bc r) c) := by
  rw [headScore_apply, show IntOp.andi (IntOp.cmpi .sge (BitVec.ofNat 32 (lane c).val) 1#32) (IntOp.cmpi .slt (BitVec.ofNat 32 (lane c).val) 91#32) = 1#1 from by
      revert c; unfold lane; decide,
    prob_pad _ _ (fun c => laneLogit_real _ x5 x6 r c wc bc (hw c) (hb c)) (fun x hx => laneLogit_pad _ x5 x6 r x hx)]
  rfl

/-- The regression entry of column `q`. -/
def reg (h : FVec Ideal S1000x1024 .f32) (x7 : FVec Ideal S512x1024 .f32) (x8 : FVec Ideal S1x512 .f32) (r : Fin 1000) (q : Fin 512) : EReal :=
  affine (mat (a := 1000) (b := 1024) h) (mat (a := 512) (b := 1024) x7) (mat (a := 1) (b := 512) x8 0) r q

theorem headX1_apply (h x7 x8 x9) (r : Fin 1000) (l : Fin 128) : mat (a := 1000) (b := 128) (headX1 (F := Ideal) h x7 x8 x9) r l
    = lower (Ideal.ofBits .f32 0x44854000#32) (reg h x7 x8 r ⟨l.val, by omega⟩) (reg h x7 x8 r ⟨256 + l.val, by omega⟩) (mat (a := 1000) (b := 4) x9 r 0) (mat (a := 1000) (b := 4) x9 r 2) := by
  unfold mat lower middle grow reg affine mat
  pointwise [headX1, k0_pay10, k0_pay12, k0_pay14, k0_pay20, k0_pay9, k0_pay16, k0_pay18]
theorem headY1_apply (h x7 x8 x9) (r : Fin 1000) (l : Fin 128) : mat (a := 1000) (b := 128) (headY1 (F := Ideal) h x7 x8 x9) r l
    = lower (Ideal.ofBits .f32 0x44480000#32) (reg h x7 x8 r ⟨128 + l.val, by omega⟩) (reg h x7 x8 r ⟨384 + l.val, by omega⟩) (mat (a := 1000) (b := 4) x9 r 1) (mat (a := 1000) (b := 4) x9 r 3) := by
  unfold mat lower middle grow reg affine mat
  pointwise [headY1, k0_pay11, k0_pay13, k0_pay15, k0_pay21, k0_pay9, k0_pay17, k0_pay19]
theorem headX2_apply (h x7 x8 x9) (r : Fin 1000) (l : Fin 128) : mat (a := 1000) (b := 128) (headX2 (F := Ideal) h x7 x8 x9) r l
    = upper (Ideal.ofBits .f32 0x44854000#32) (reg h x7 x8 r ⟨l.val, by omega⟩) (reg h x7 x8 r ⟨256 + l.val, by omega⟩) (mat (a := 1000) (b := 4) x9 r 0) (mat (a := 1000) (b := 4) x9 r 2) := by
  unfold mat upper middle grow reg affine mat
  pointwise [headX2, k0_pay3, k0_pay10, k0_pay12, k0_pay14, k0_pay22, k0_pay9, k0_pay16, k0_pay18]
theorem headY2_apply (h x7 x8 x9) (r : Fin 1000) (l : Fin 128) : mat (a := 1000) (b := 128) (headY2 (F := Ideal) h x7 x8 x9) r l
    = upper (Ideal.ofBits .f32 0x44480000#32) (reg h x7 x8 r ⟨128 + l.val, by omega⟩) (reg h x7 x8 r ⟨384 + l.val, by omega⟩) (mat (a := 1000) (b := 4) x9 r 1) (mat (a := 1000) (b := 4) x9 r 3) := by
  unfold mat upper middle grow reg affine mat
  pointwise [headY2, k0_pay4, k0_pay11, k0_pay13, k0_pay15, k0_pay17, k0_pay9, k0_pay19]

/-- A point's addition to the accumulator. -/
theorem step_apply (a x w) (r : Fin 1000) (l : Fin 1024) : mat (a := 1000) (b := 1024) (k0_pay2 (F := Ideal) a x w) r l
    = mat (a := 1000) (b := 1024) a r l + ∑ k, mat (a := 1000) (b := 1792) x r k * mat (a := 1024) (b := 1792) w l k := by
  unfold mat
  pointwise [k0_pay2]
theorem start_apply (r : Fin 1000) (l : Fin 1024) : mat (a := 1000) (b := 1024) (k0_pay1 (F := Ideal)) r l = 0 := by
  unfold mat
  pointwise [k0_pay1]

end Cert.Proof.KernelIdeal
-- ==== Proof.Value.KerHead.lean ====
/-
  The head kernel's five result arrays: the accumulator over the grid is the whole first product, and at the lanes of the real
  classes the scores and coordinates are the head's of @main's arguments.
-/
module

public import proofs.«01_k».proof.Proof.Value.KerPrefix
public import proofs.«01_k».proof.Proof.Value.KerScalar
public import Idealize.ShloMosaic.Lib.Pipeline.ValueKit

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen
open Cert.Proof.Value

variable (V : (c : Dev nD) → (b : Ref sig .tc) → Buf (Elt Ideal) ((c : Thread nD τ).loc b)) (c : Dev nD)

/-- The input windows' block indices. -/
theorem idx_in : ∀ t : Fin grid0.N, win0_0.index t = ![0, t.val] ∧ win0_1.index t = ![0, t.val] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0] := by
  decide +kernel

theorem blk_0 (t : Fin cfg0.N) (r : Fin 1000) (k : Fin 1792) (h : t.val * 1792 + k.val < 12544) :
    mat (a := 1000) (b := 1792) (hblk V c 0 t) r k = mat (a := 1000) (b := 12544) (V c main_v0) r ⟨t.val * 1792 + k.val, h⟩ := by
  unfold mat
  blk_ext [hblk, idx_in t]
theorem blk_1 (t : Fin cfg0.N) (l : Fin 1024) (k : Fin 1792) (h : t.val * 1792 + k.val < 12544) :
    mat (a := 1024) (b := 1792) (hblk V c 1 t) l k = mat (a := 1024) (b := 12544) (V c main_arg2) l ⟨t.val * 1792 + k.val, h⟩ := by
  unfold mat
  blk_ext [hblk, idx_in t]
theorem blk_2 (t : Fin cfg0.N) : mat (a := 1) (b := 1024) (hblk V c 2 t) = mat (a := 1) (b := 1024) (V c main_v12) := by
  funext r l
  unfold mat
  blk_ext [hblk, idx_in t]
theorem blk_3 (t : Fin cfg0.N) : mat (a := 1024) (b := 1024) (hblk V c 3 t) = mat (a := 1024) (b := 1024) (V c main_arg4) := by
  funext r l
  unfold mat
  blk_ext [hblk, idx_in t]
theorem blk_4 (t : Fin cfg0.N) : mat (a := 1) (b := 1024) (hblk V c 4 t) = mat (a := 1) (b := 1024) (V c main_v13) := by
  funext r l
  unfold mat
  blk_ext [hblk, idx_in t]
theorem blk_5 (t : Fin cfg0.N) : mat (a := 128) (b := 1024) (hblk V c 5 t) = mat (a := 128) (b := 1024) (V c main_v1) := by
  funext r l
  unfold mat
  blk_ext [hblk, idx_in t]
theorem blk_6 (t : Fin cfg0.N) : mat (a := 1) (b := 128) (hblk V c 6 t) = mat (a := 1) (b := 128) (V c main_v3) := by
  funext r l
  unfold mat
  blk_ext [hblk, idx_in t]
theorem blk_7 (t : Fin cfg0.N) : mat (a := 512) (b := 1024) (hblk V c 7 t) = mat (a := 512) (b := 1024) (V c main_v7) := by
  funext r l
  unfold mat
  blk_ext [hblk, idx_in t]
theorem blk_8 (t : Fin cfg0.N) : mat (a := 1) (b := 512) (hblk V c 8 t) = mat (a := 1) (b := 512) (V c main_v11) := by
  funext r l
  unfold mat
  blk_ext [hblk, idx_in t]
theorem blk_9 (t : Fin cfg0.N) : mat (a := 1000) (b := 4) (hblk V c 9 t) = mat (a := 1000) (b := 4) (V c main_arg1) := by
  funext r l
  unfold mat
  blk_ext [hblk, idx_in t]

/-- The first product's term at column `j`, 0 past the last. -/
def term (r : Fin 1000) (l : Fin 1024) (j : ℕ) : EReal :=
  if h : j < 12544 then mat (a := 1000) (b := 12544) (V c main_v0) r ⟨j, h⟩ * mat (a := 1024) (b := 12544) (V c main_arg2) l ⟨j, h⟩ else 0

theorem point_sum (t : Fin cfg0.N) (r : Fin 1000) (l : Fin 1024) :
    ∑ k, mat (a := 1000) (b := 1792) (hblk V c 0 t) r k * mat (a := 1024) (b := 1792) (hblk V c 1 t) l k
      = ∑ j ∈ Finset.range 1792, term V c r l (t.val * 1792 + j) := by
  rw [Finset.sum_range]
  refine Finset.sum_congr rfl fun k _ => ?_
  have ht : t.val < 7 := Nat.lt_of_lt_of_eq t.isLt N_0
  have h : t.val * 1792 + k.val < 12544 := by omega
  rw [term, dif_pos h, blk_0 V c t r k h, blk_1 V c t l k h]

/-- The accumulator after point `n`: the first product over the columns so far. -/
theorem acc_apply (r : Fin 1000) (l : Fin 1024) : ∀ (n : ℕ) (hn : n < cfg0.N),
    mat (a := 1000) (b := 1024) (accAt V c n hn) r l = ∑ j ∈ Finset.range ((n + 1) * 1792), term V c r l j
  | 0, hn => by
    unfold accAt
    rw [step_apply, start_apply, zero_add, point_sum V c ⟨0, hn⟩ r l]
    simp only [Nat.zero_mul, Nat.zero_add, Nat.one_mul]
  | n + 1, hn => by
    unfold accAt
    rw [step_apply, acc_apply r l n, point_sum V c ⟨n + 1, hn⟩ r l, Nat.add_mul (n + 1) 1, Nat.one_mul, Finset.sum_range_add]

theorem acc_last (r : Fin 1000) (l : Fin 1024) : mat (a := 1000) (b := 1024) (accAt V c t0_6.val t0_6.isLt) r l
    = ∑ k, mat (a := 1000) (b := 12544) (V c main_v0) r k * mat (a := 1024) (b := 12544) (V c main_arg2) l k := by
  rw [acc_apply]
  refine (Finset.sum_range (n := 12544) _).trans (Finset.sum_congr rfl fun k _ => ?_)
  rw [term, dif_pos k.isLt]

/-! The output windows' arrays after the region: what the last point left. -/

theorem arr_10 : (hdat V c).arrAt 10 cfg0.N = hout V c t0_6 0 := by
  refine (hdat V c).arrAt_eq_of_after_last 10 t0_6 (by decide +kernel) _ fun j => ?_
  blk_simp
  rw [hafter_10]
theorem arr_11 : (hdat V c).arrAt 11 cfg0.N = hout V c t0_6 1 := by
  refine (hdat V c).arrAt_eq_of_after_last 11 t0_6 (by decide +kernel) _ fun j => ?_
  blk_simp
  rw [hafter_11]
theorem arr_12 : (hdat V c).arrAt 12 cfg0.N = hout V c t0_6 2 := by
  refine (hdat V c).arrAt_eq_of_after_last 12 t0_6 (by decide +kernel) _ fun j => ?_
  blk_simp
  rw [hafter_12]
theorem arr_13 : (hdat V c).arrAt 13 cfg0.N = hout V c t0_6 3 := by
  refine (hdat V c).arrAt_eq_of_after_last 13 t0_6 (by decide +kernel) _ fun j => ?_
  blk_simp
  rw [hafter_13]
theorem arr_14 : (hdat V c).arrAt 14 cfg0.N = hout V c t0_6 4 := by
  refine (hdat V c).arrAt_eq_of_after_last 14 t0_6 (by decide +kernel) _ fun j => ?_
  blk_simp
  rw [hafter_14]

/-! ## In terms of @main's arguments -/

variable (m : (ℓ : Loc nD τ sig) → Buf (Elt Ideal) ℓ)

/-- The proposals' features, the weights and the biases, as the launch holds them. -/
def feats := feat (V0 m c (Proc.devRef .tc main_arg0))
def props := mat (a := 1000) (b := 4) (V0 m c (Proc.devRef .tc main_arg1))
def w1 := mat (a := 1024) (b := 12544) (V0 m c (Proc.devRef .tc main_arg2))
def b1 := vec (a := 1024) (V0 m c (Proc.devRef .tc main_arg3))
def w2 := mat (a := 1024) (b := 1024) (V0 m c (Proc.devRef .tc main_arg4))
def b2 := vec (a := 1024) (V0 m c (Proc.devRef .tc main_arg5))
def wc := mat (a := 91) (b := 1024) (V0 m c (Proc.devRef .tc main_arg6))
def bc := vec (a := 91) (V0 m c (Proc.devRef .tc main_arg7))
def wr := mat (a := 364) (b := 1024) (V0 m c (Proc.devRef .tc main_arg8))
def br := vec (a := 364) (V0 m c (Proc.devRef .tc main_arg9))
/-- The second hidden activation, the class logits and the regression rows. -/
def act := Value.hidden (Value.hidden (feats c m) (w1 c m) (b1 c m)) (w2 c m) (b2 c m)
def logits := affine (act c m) (wc c m) (bc c m)
def deltas := affine (act c m) (wr c m) (br c m)

/-- The arrays as the head kernel finds them. -/
abbrev found : (c : Dev nD) → (b : Ref sig .tc) → Buf (Elt Ideal) ((c : Thread nD τ).loc b) := fun c b => V9 m c b
/-- The accumulator and the second activation at the last point. -/
abbrev accLast := accAt (found m) c t0_6.val t0_6.isLt
abbrev hidLast : FVec Ideal S1000x1024 .f32 := hid (accLast c m) (hblk (found m) c 2 t0_6) (hblk (found m) c 3 t0_6) (hblk (found m) c 4 t0_6)

theorem hidLast_eq : mat (a := 1000) (b := 1024) (hidLast c m) = act c m := by
  funext r l
  refine (hid_apply _ _ _ _ r l).trans ?_
  rw [blk_2, blk_3, blk_4]
  have e0 : mat (a := 1000) (b := 12544) (found m c main_v0) = feats c m := funext fun r => funext fun k => V9_v0 m c r k
  have e2 : mat (a := 1024) (b := 12544) (found m c main_arg2) = w1 c m := by unfold w1; rw [← V9_arg m c main_arg2 (by decide)]
  have e4 : mat (a := 1024) (b := 1024) (found m c main_arg4) = w2 c m := by unfold w2; rw [← V9_arg m c main_arg4 (by decide)]
  have e12 : ∀ k, mat (a := 1) (b := 1024) (found m c main_v12) 0 k = b1 c m k := V9_v12 m c
  have e13 : mat (a := 1) (b := 1024) (found m c main_v13) 0 = b2 c m := funext fun k => V9_v13 m c k
  rw [e4, e13]
  refine congrArg (fun x => Value.hidden x (w2 c m) (b2 c m) r l) (funext fun r => funext fun k => ?_)
  rw [acc_last, e0, e2, e12]
  rfl

theorem score_real (r : Fin 1000) (x : Fin 91) (hx : 1 ≤ x.val) :
    mat (a := 1000) (b := 128) (outs m 10 main_v14_0 c) r (lane x) = score (prob (logits c m r) x) := by
  rw [show outs m 10 main_v14_0 c = hout (found m) c t0_6 0 from (hOut m c 10).trans (arr_10 _ c)]
  refine (headScore_real _ _ _ _ _ _ r x hx (wc c m) (bc c m) (fun y k => ?_) (fun y => ?_)).trans ?_
  · rw [blk_5]; exact V9_v1 m c y k
  · rw [blk_6]; exact V9_v3 m c y
  · exact congrArg (fun h => score (prob (affine h (wc c m) (bc c m) r) x)) (hidLast_eq c m)
theorem score_pad (r : Fin 1000) (l : Fin 128) (hl : ¬(1 ≤ l.val ∧ l.val < 91)) :
    mat (a := 1000) (b := 128) (outs m 10 main_v14_0 c) r l = Ideal.ofBits .f32 0xC0000000#32 := by
  rw [show outs m 10 main_v14_0 c = hout (found m) c t0_6 0 from (hOut m c 10).trans (arr_10 _ c)]
  exact headScore_pad _ _ _ _ _ _ r l hl

/-- The regression entry `q` of class `x`. -/
theorem reg_real (r : Fin 1000) (x : Fin 91) (q : Fin 4) (j : Fin 512) (hj : j.val = q.val * 128 + x.val) :
    reg (hidLast c m) (hblk (found m) c 7 t0_6) (hblk (found m) c 8 t0_6) r j = deltas c m r ⟨x.val * 4 + q.val, by omega⟩ := by
  unfold reg deltas affine
  have hlt : q.val * 128 + x.val < 512 := by omega
  obtain rfl : (⟨q.val * 128 + x.val, hlt⟩ : Fin 512) = j := Fin.ext hj.symm
  rw [blk_7, blk_8, hidLast_eq]
  refine congrArg₂ (· + ·) (Finset.sum_congr rfl fun k _ => congrArg _ (V9_v7 m c x q k)) (V9_v11 m c x q)
theorem props_eq : mat (a := 1000) (b := 4) (hblk (found m) c 9 t0_6) = props c m := by
  rw [blk_9]; unfold props; rw [← V9_arg m c main_arg1 (by decide)]

theorem coord_0 (r : Fin 1000) (x : Fin 91) : mat (a := 1000) (b := 128) (outs m 10 main_v14_1 c) r (lane x) = box (deltas c m r) (props c m r) x 0 := by
  rw [show outs m 10 main_v14_1 c = hout (found m) c t0_6 1 from (hOut m c 11).trans (arr_11 _ c)]
  refine (headX1_apply _ _ _ _ r (lane x)).trans ?_
  rw [props_eq, reg_real c m r x 0 _ (by simp [lane]), reg_real c m r x 2 _ (by simp [lane])]
  rfl
theorem coord_1 (r : Fin 1000) (x : Fin 91) : mat (a := 1000) (b := 128) (outs m 10 main_v14_2 c) r (lane x) = box (deltas c m r) (props c m r) x 1 := by
  rw [show outs m 10 main_v14_2 c = hout (found m) c t0_6 2 from (hOut m c 12).trans (arr_12 _ c)]
  refine (headY1_apply _ _ _ _ r (lane x)).trans ?_
  rw [props_eq, reg_real c m r x 1 _ (by simp [lane]), reg_real c m r x 3 _ (by simp [lane])]
  rfl
theorem coord_2 (r : Fin 1000) (x : Fin 91) : mat (a := 1000) (b := 128) (outs m 10 main_v14_3 c) r (lane x) = box (deltas c m r) (props c m r) x 2 := by
  rw [show outs m 10 main_v14_3 c = hout (found m) c t0_6 3 from (hOut m c 13).trans (arr_13 _ c)]
  refine (headX2_apply _ _ _ _ r (lane x)).trans ?_
  rw [props_eq, reg_real c m r x 0 _ (by simp [lane]), reg_real c m r x 2 _ (by simp [lane])]
  rfl
theorem coord_3 (r : Fin 1000) (x : Fin 91) : mat (a := 1000) (b := 128) (outs m 10 main_v14_4 c) r (lane x) = box (deltas c m r) (props c m r) x 3 := by
  rw [show outs m 10 main_v14_4 c = hout (found m) c t0_6 4 from (hOut m c 14).trans (arr_14 _ c)]
  refine (headY2_apply _ _ _ _ r (lane x)).trans ?_
  rw [props_eq, reg_real c m r x 1 _ (by simp [lane]), reg_real c m r x 3 _ (by simp [lane])]
  rfl

end Cert.Proof.KernelIdeal
-- ==== Proof.Value.Sort.lean ====
/-
  The `k` greatest of a vector of extended reals, as the host's top-k takes them (stable, greater first): the position that lands at
  place `n` is `rank x n`. A vector that holds another one's entries at ascending places, and only lesser entries elsewhere, has the
  same first places, moved along.
-/
module

public import Idealize.ShloMosaic.Lib.SortPrefix
public import Idealize.ShloMosaic.Lib.Pointwise

@[expose] public section

set_option maxRecDepth 16384

noncomputable section

namespace Cert.Proof.Value

open Idealize.ShloMosaic

/-- Entry `a` is greater than entry `b`. -/
def greater {n : ℕ} (x : Fin n → EReal) (a b : Fin n) : Bool := decide (x b < x a)

/-- Greater, or equal and earlier. -/
def ahead {n : ℕ} (x : Fin n → EReal) (a b : Fin n) : Bool :=
  decide (x b < x a) || (decide (x a = x b) && decide (a < b))

/-- The place of the vector that a stable sort by `greater` puts at `k`. -/
def rank {n : ℕ} (x : Fin n → EReal) (k : Fin n) : Fin n := sortedFrom (greater x) k

theorem ahead_strict {n : ℕ} (x : Fin n → EReal) : StrictTotalBefore (ahead x) :=
  StrictTotalBefore.of_key_then_position (fun u v : EReal => decide (v < u)) x (fun a => by simp)
    (fun a b c h1 h2 => by simp only [decide_eq_true_eq] at *; exact h2.trans h1)
    (fun a b => by simp only [decide_eq_true_eq]; rcases lt_trichotomy a b with h | h | h <;> simp [h])

theorem stableSort_ahead {n : ℕ} (x : Fin n → EReal) : ∀ l : List (Fin n), l.Pairwise (· < ·) →
    stableSort (greater x) l = stableSort (ahead x) l
  | [], _ => rfl
  | a :: l, h => by
    unfold stableSort
    rw [stableSort_ahead x l (List.pairwise_cons.1 h).2]
    refine insertBefore_congr _ _ a _ fun b hb => ?_
    have hab : a < b := (List.pairwise_cons.1 h).1 b ((perm_stableSort _ l).mem_iff.mp hb)
    simp [greater, ahead, not_lt.2 hab.le]

theorem rank_eq {n : ℕ} (x : Fin n → EReal) (k : Fin n) : rank x k = sortedFrom (ahead x) k := by
  have h : sortPositions n (greater x) = sortPositions n (ahead x) :=
    stableSort_ahead x _ (List.pairwise_lt_finRange n)
  unfold rank sortedFrom
  rw [List.get_of_eq h]
  rfl

theorem rank_order {n : ℕ} (x : Fin n → EReal) (i j : Fin n) (h : i < j) : ahead x (rank x j) (rank x i) = false := by
  rw [rank_eq, rank_eq]
  exact sortedFrom_noInversion _ _ (fun a b h => (ahead_strict x).asymm a b h) (fun _ _ h => h) (ahead_strict x).negTrans i j h

/-- The greatest entries of `A` are those of `B`, where `A` holds `B` at the places `φ` and lesser entries elsewhere. -/
theorem rank_embed {N M k : ℕ} (A : Fin N → EReal) (B : Fin M → EReal) (φ : Fin M → Fin N) (hφ : StrictMono φ)
    (hAB : ∀ i, A (φ i) = B i) (hlow : ∀ p, (∀ i, φ i ≠ p) → ∀ i, A p < B i) (hM : k ≤ M) (hN : k ≤ N) (n : Fin k) :
    rank A (n.castLE hN) = φ (rank B (n.castLE hM)) := by
  have hah : ∀ a b, ahead A (φ a) (φ b) = ahead B a b := fun a b => by
    simp only [ahead, hAB, hφ.lt_iff_lt]
  rw [rank_eq]
  refine StrictTotalBefore.sortedFrom_eq_of_prefix (ahead_strict A) hN (fun i => φ (rank B (i.castLE hM))) ?_ ?_ ?_ n
  · intro i j h
    have h1 : rank B (i.castLE hM) = rank B (j.castLE hM) := hφ.injective h
    exact Fin.castLE_injective hM (sortedFrom_injective _ h1)
  · intro i j h
    rw [hah]
    exact rank_order B _ _ (by simpa using h)
  · intro i p hp
    by_cases hq : ∃ q, φ q = p
    · obtain ⟨q, rfl⟩ := hq
      rw [hah]
      obtain ⟨j, rfl⟩ := sortedFrom_surjective (greater B) q
      have hj : k ≤ j.val := by
        by_contra hlt
        exact hp ⟨j.val, by omega⟩ rfl
      exact rank_order B _ _ (by show i.val < j.val; have := i.isLt; omega)
    · have h := hlow p (fun i hi => hq ⟨i, hi⟩) (rank B (i.castLE hM))
      simp [ahead, hAB, not_lt.2 h.le, h.ne]

theorem topK_before {N k : ℕ} (x : (⟨1, ![N]⟩ : Shape).Idx → Ideal .f32) (h : (⟨1, ![N]⟩ : Shape).Slices (fun _ => 0) ⟨1, ![k]⟩)
    (j : (⟨1, ![N]⟩ : Shape).Idx) (a b : Fin N) :
    ((FloatOps.cmpfTotal (F := Ideal) (φ := .f32) .gt (x (j.along 0 a)) (x (j.along 0 b)) == 1#1) : Bool)
      = greater (fun a : Fin N => x (ix1 a)) a b := by
  have e : ∀ a : Fin N, j.along 0 a = ix1 a := fun a => by
    funext b
    match b with
    | ⟨0, _⟩ => exact Function.update_self _ _ _
  rw [e, e]
  show (Ideal.cmp .ogt (x (ix1 a)) (x (ix1 b)) == 1#1) = _
  unfold Ideal.cmp greater
  by_cases hlt : x (ix1 b) < x (ix1 a) <;> simp [hlt]

/-- The value a top-k leaves at place `n`. -/
theorem topK_fst {N k : ℕ} (x : (⟨1, ![N]⟩ : Shape).Idx → Ideal .f32) (h : (⟨1, ![N]⟩ : Shape).Slices (fun _ => 0) ⟨1, ![k]⟩)
    (hk : k ≤ N) (n : Fin k) :
    (Host.topK ⟨1, ![k]⟩ 0 (FloatOps.cmpfTotal (F := Ideal) (φ := .f32) .gt) x h).1 (ix1 n)
      = x (ix1 (rank (fun a : Fin N => x (ix1 a)) (n.castLE hk))) := by
  unfold Host.topK Host.sort2
  simp only [extractStridedSlice]
  rw [dif_pos (show (0 : ℕ) < (⟨1, ![N]⟩ : Shape).rank from Nat.one_pos)]
  dsimp only
  refine congrArg x ?_
  funext b
  match b with
  | ⟨0, _⟩ =>
    refine (Function.update_self _ _ _).trans ?_
    show sortedFrom _ _ = sortedFrom _ _
    congr 1
    · funext a b
      exact topK_before x h _ a b
    · apply Fin.ext; simp [Fin.castLE]

/-- The place it was found at. -/
theorem topK_snd {N k : ℕ} (x : (⟨1, ![N]⟩ : Shape).Idx → Ideal .f32) (h : (⟨1, ![N]⟩ : Shape).Slices (fun _ => 0) ⟨1, ![k]⟩)
    (hk : k ≤ N) (n : Fin k) :
    (Host.topK ⟨1, ![k]⟩ 0 (FloatOps.cmpfTotal (F := Ideal) (φ := .f32) .gt) x h).2 (ix1 n)
      = BitVec.ofNat 32 (rank (fun a : Fin N => x (ix1 a)) (n.castLE hk)).val := by
  unfold Host.topK Host.sort2
  simp only [extractStridedSlice]
  rw [dif_pos (show (0 : ℕ) < (⟨1, ![N]⟩ : Shape).rank from Nat.one_pos)]
  dsimp only [iotaInDim]
  rw [dif_pos (show (0 : ℕ) < (⟨1, ![N]⟩ : Shape).rank from Nat.one_pos)]
  refine congrArg (fun q : Fin N => BitVec.ofNat 32 q.val) ?_
  refine (Function.update_self _ _ _).trans ?_
  show sortedFrom _ _ = sortedFrom _ _
  congr 1
  · funext a b
    exact topK_before x h _ a b
  · apply Fin.ext; simp [Fin.castLE]

end Cert.Proof.Value
-- ==== Proof.Value.Take.lean ====
/-
  Rows and entries taken at computed places: an index vector whose entries are non-negative passes the wrap of negative indices
  unchanged, and the gather at it reads the table there.
-/
module

public import proofs.«01_k».proof.Proof.Value.Sort
public import proofs.«01_k».proof.Proof.Value.Spec
public import Idealize.ShloMosaic.Lib.Routing.BitFacts
public import Idealize.ShloMosaic.Lib.Routing.Ops
public import Idealize.ShloMosaic.Lib.Routing.OpsSet

@[expose] public section

set_option maxRecDepth 16384

noncomputable section

namespace Cert.Proof.Value

open Idealize.ShloMosaic

/-- The place of the `n`-th greatest entry of a vector. -/
def place {N k : ℕ} (hk : k ≤ N) (x : Fin N → EReal) (n : Fin k) : Fin N := rank x (n.castLE hk)

theorem slt_zero (b : ℕ) (hb : b < 2 ^ 31) : IntOp.cmpi .slt (BitVec.ofNat 32 b) 0#32 = 0#1 := by
  have h : (BitVec.ofNat 32 b).slt 0#32 = false :=
    (Idealize.ShloMosaic.Routing.slt_ofNat32 hb (by decide : 0 < 2 ^ 31)).trans (by simp)
  simp [IntOp.cmpi, h]

theorem wrap_1000 (idx : IVec ⟨1, ![1000]⟩ 32) (w : BitVec 32) (p : Fin 1000) (b : ℕ) (hb : b < 2 ^ 31) (hi : idx (ix1 p) = BitVec.ofNat 32 b)
    (h1 h2 h3) :
    broadcastInDim ⟨2, ![1000, 1]⟩ ![0] h1
      (select (cmpi .slt idx (broadcastInDim ⟨1, ![1000]⟩ ![] h2 (constantI ⟨0, ![]⟩ 32 0#32)))
        (addi idx (broadcastInDim ⟨1, ![1000]⟩ ![] h3 (constantI ⟨0, ![]⟩ 32 w))) idx) (ix2 p 0) = BitVec.ofNat 32 b := by
  pointwise
  rw [hi, slt_zero b hb]
  rfl

theorem wrap_100 (idx : IVec ⟨1, ![100]⟩ 32) (w : BitVec 32) (p : Fin 100) (b : ℕ) (hb : b < 2 ^ 31) (hi : idx (ix1 p) = BitVec.ofNat 32 b)
    (h1 h2 h3) :
    broadcastInDim ⟨2, ![100, 1]⟩ ![0] h1
      (select (cmpi .slt idx (broadcastInDim ⟨1, ![100]⟩ ![] h2 (constantI ⟨0, ![]⟩ 32 0#32)))
        (addi idx (broadcastInDim ⟨1, ![100]⟩ ![] h3 (constantI ⟨0, ![]⟩ 32 w))) idx) (ix2 p 0) = BitVec.ofNat 32 b := by
  pointwise
  rw [hi, slt_zero b hb]
  rfl

/-! ## The suppression -/

/-- The area of a box, and of two boxes' intersection; their intersection over their union. -/
def area (a : Fin 4 → EReal) : EReal := (a 2 - a 0) * (a 3 - a 1)
def overlap (a b : Fin 4 → EReal) : EReal :=
  max (min (a 2) (b 2) - max (a 0) (b 0)) 0 * max (min (a 3) (b 3) - max (a 1) (b 1)) 0
def iou (a b : Fin 4 → EReal) : EReal :=
  Ideal.div (overlap a b) (max (area a + area b - overlap a b) (Ideal.ofBits .f32 0x358637BD#32))

/-- Box `i` suppresses the later box `j`. -/
def suppresses (b : Fin 1000 → Fin 4 → EReal) (i j : Fin 1000) : Bool :=
  decide (Ideal.ofBits .f32 0x3F19999A#32 < iou (b i) (b j)) && decide (i < j)

/-- The boxes kept after the first `k` boxes have suppressed theirs. -/
def kept (S : Fin 1000 → Fin 1000 → Bool) : ℕ → Fin 1000 → Bool
  | 0, _ => true
  | k + 1, j => if h : k < 1000 then kept S k j && !(S ⟨k, h⟩ j && kept S k ⟨k, h⟩) else kept S k j

/-- The flag a candidate ends with: kept by the suppression, and of positive score. -/
def flag (v : Fin 1000 → EReal) (b : Fin 1000 → Fin 4 → EReal) (n : Fin 1000) : Bool :=
  kept (suppresses b) 1000 n && decide (0 < v n)
/-- What the second ranking compares: the flagged candidates' scores, −1 for the others. -/
def ranked (v : Fin 1000 → EReal) (f : Fin 1000 → Bool) (n : Fin 1000) : EReal :=
  if f n then v n else Ideal.ofBits .f32 0xBF800000#32
/-- The candidate at place `n` of the second ranking. -/
def picked (v : Fin 1000 → EReal) (f : Fin 1000 → Bool) : Fin 100 → Fin 1000 := place (by decide : 100 ≤ 1000) (ranked v f)

end Cert.Proof.Value
-- ==== Proof.Value.KerTile.lean ====
/-
  The suppression kernel's matrix, one tile of 128 rows at a time: the entry at row `i` and lane `j` is 1 where box `i` overlaps the
  later box `j` by more than the threshold, and 0 elsewhere.
-/
module

public import proofs.«01_k».proof.Proof.KernelIdeal.Run
public import proofs.«01_k».proof.Proof.Value.Take
public import Idealize.ShloMosaic.Lib.Pipeline.ValueKit

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen
open Cert.Proof.Value

/-- An entry of the matrix, from the two boxes and the words of the row and of the lane. -/
def cell (r b : Fin 4 → EReal) (i j : BitVec 32) : EReal :=
  Scalar.select (IntOp.andi (BitVec.ofBool (decide (Ideal.ofBits .f32 0x3F19999A#32 < iou r b))) (IntOp.cmpi .sgt j i))
    1 0
/-- The lane numbers along a tile. -/
def lanes : IVec S128x1024 32 := iota Kind.tc S128x1024 32 [1] iota_S128x1024_d1_w32

section
variable (a : Vec Ideal S128x4 .f32) (c0 c1 c2 c3 : Vec Ideal S1x1024 .f32) (i : Fin 128) (j : Fin 1024)

/-- What a tile holds at row `i` and lane `j`, from the rows it loads. -/
def spot (o : BitVec 32) : EReal :=
  cell (mat a i) ![mat c0 0 j, mat c1 0 j, mat c2 0 j, mat c3 0 j] (IntOp.addi o (BitVec.ofNat 32 i.val)) (BitVec.ofNat 32 j.val)

theorem tile_0 : mat (a := 128) (b := 1024) (k1_pay15 (k1_pay5 c2 c0 c3 c1) lanes (k1_pay8 a) (k1_pay11 a) (k1_pay12 a c2 c0) (k1_pay13 a c3) (k1_pay14 c1)) i j = spot a c0 c1 c2 c3 i j 0#32 := by
  unfold spot cell iou overlap area lanes mat k1_pay15 k1_pay14 k1_pay13 k1_pay12 k1_pay11 k1_pay10 k1_pay9 k1_pay8 k1_pay7 k1_pay6 k1_pay5
  pointwise
theorem tile_128 : mat (a := 128) (b := 1024) (k1_pay25 (k1_pay5 c2 c0 c3 c1) lanes (k1_pay18 a) (k1_pay20 a) (k1_pay21 a) (k1_pay22 a c2) (k1_pay23 a) (k1_pay24 c0) c3 c1) i j = spot a c0 c1 c2 c3 i j 128#32 := by
  unfold spot cell iou overlap area lanes mat k1_pay25 k1_pay24 k1_pay23 k1_pay22 k1_pay21 k1_pay20 k1_pay19 k1_pay18 k1_pay17 k1_pay16 k1_pay5
  pointwise
theorem tile_256 : mat (a := 128) (b := 1024) (k1_pay33 (k1_pay31 (k1_pay5 c2 c0 c3 c1) lanes (k1_pay27 a) (k1_pay28 a) (k1_pay29 a) (k1_pay30 a) c2 c0 c3 c1) (FloatOps.ofBits FTy.f32 0#32) k1_pay32) i j = spot a c0 c1 c2 c3 i j 256#32 := by
  unfold spot cell iou overlap area lanes mat k1_pay33 k1_pay32 k1_pay31 k1_pay30 k1_pay29 k1_pay28 k1_pay27 k1_pay26 k1_pay5
  pointwise
theorem tile_384 : mat (a := 128) (b := 1024) (k1_pay41 lanes (k1_pay39 a c2 c0 c3 c1) (k1_pay40 (k1_pay5 c2 c0 c3 c1) a c2 c0 c3 c1)) i j = spot a c0 c1 c2 c3 i j 384#32 := by
  unfold spot cell iou overlap area lanes mat k1_pay41 k1_pay40 k1_pay39 k1_pay38 k1_pay37 k1_pay36 k1_pay35 k1_pay34 k1_pay5
  pointwise
theorem tile_512 : mat (a := 128) (b := 1024) (k1_pay50 (k1_pay5 c2 c0 c3 c1) lanes (k1_pay44 a) (k1_pay47 a) (k1_pay48 a c2 c0) (k1_pay49 a c3) c1) i j = spot a c0 c1 c2 c3 i j 512#32 := by
  unfold spot cell iou overlap area lanes mat k1_pay50 k1_pay49 k1_pay48 k1_pay47 k1_pay46 k1_pay45 k1_pay44 k1_pay43 k1_pay42 k1_pay5
  pointwise
theorem tile_640 : mat (a := 128) (b := 1024) (k1_pay58 (k1_pay5 c2 c0 c3 c1) lanes (k1_pay52 a) (k1_pay53 a) (k1_pay55 a) (k1_pay56 a) (k1_pay57 a c2) c0 c3 c1) i j = spot a c0 c1 c2 c3 i j 640#32 := by
  unfold spot cell iou overlap area lanes mat k1_pay58 k1_pay57 k1_pay56 k1_pay55 k1_pay54 k1_pay53 k1_pay52 k1_pay51 k1_pay5
  pointwise
theorem tile_768 : mat (a := 128) (b := 1024) (k1_pay62 (k1_pay60 (k1_pay5 c2 c0 c3 c1) (k1_pay59 a) c2 c0 c3 c1) (k1_pay61 lanes)) i j = spot a c0 c1 c2 c3 i j 768#32 := by
  unfold spot cell iou overlap area lanes mat k1_pay62 k1_pay61 k1_pay60 k1_pay59 k1_pay5
  pointwise
theorem tile_896 : mat (a := 128) (b := 1024) (k1_pay1 (k1_pay5 c2 c0 c3 c1) lanes (k1_pay68 a) (k1_pay69 a c2 c0 c3 c1)) i j = spot a c0 c1 c2 c3 i j 896#32 := by
  unfold spot cell iou overlap area lanes mat k1_pay1 k1_pay69 k1_pay68 k1_pay67 k1_pay66 k1_pay65 k1_pay64 k1_pay63 k1_pay5
  pointwise

end

/-- The whole matrix, from the boxes by row and by lane. -/
def field (A0 : Vec Ideal S1024x4 .f32) (A1 : Vec Ideal S4x1024 .f32) (i j : Fin 1024) : EReal :=
  cell (mat (a := 1024) (b := 4) A0 i) (fun q => mat (a := 4) (b := 1024) A1 q j) (BitVec.ofNat 32 i.val) (BitVec.ofNat 32 j.val)

theorem piece (A0 : Vec Ideal S1024x4 .f32) (A1 : Vec Ideal S4x1024 .f32) (o : ℕ) (inb inb') (inb0 inb1 inb2 inb3)
    (w : Vec Ideal S128x1024 .f32)
    (h : ∀ i j, mat w i j = spot (View.ld (Val := Elt Ideal) (e' := .f32) A0 (Rect.unit (s := S1024x4) ![o, 0] S128x4.size inb'))
      (View.ld (Val := Elt Ideal) (e' := .f32) A1 (Rect.unit (s := S4x1024) ![0, 0] S1x1024.size inb0))
      (View.ld (Val := Elt Ideal) (e' := .f32) A1 (Rect.unit (s := S4x1024) ![1, 0] S1x1024.size inb1))
      (View.ld (Val := Elt Ideal) (e' := .f32) A1 (Rect.unit (s := S4x1024) ![2, 0] S1x1024.size inb2))
      (View.ld (Val := Elt Ideal) (e' := .f32) A1 (Rect.unit (s := S4x1024) ![3, 0] S1x1024.size inb3)) i j (BitVec.ofNat 32 o))
    (x : (Rect.unit (s := S1024x1024) ![o, 0] S128x1024.size inb).shape.Idx) :
    (w x : EReal) = field A0 A1 ((Rect.unit (s := S1024x1024) ![o, 0] S128x1024.size inb).emb x 0) ((Rect.unit (s := S1024x1024) ![o, 0] S128x1024.size inb).emb x 1) := by
  have hx : x = ix2 (x 0) (x 1) := by funext q; fin_cases q <;> rfl
  have h0 : (((Rect.unit (s := S1024x1024) ![o, 0] S128x1024.size inb).emb x 0 : Fin 1024) : ℕ) = o + (x 0).val := Rect.idx_unit_val _ _ _ _ _
  have h1 : (((Rect.unit (s := S1024x1024) ![o, 0] S128x1024.size inb).emb x 1 : Fin 1024) : ℕ) = 0 + (x 1).val := Rect.idx_unit_val _ _ _ _ _
  generalize ((Rect.unit (s := S1024x1024) ![o, 0] S128x1024.size inb).emb x 0 : Fin 1024) = r at h0 ⊢
  generalize ((Rect.unit (s := S1024x1024) ![o, 0] S128x1024.size inb).emb x 1 : Fin 1024) = l at h1 ⊢
  have hw : (w x : EReal) = mat (a := 128) (b := 1024) w (x 0) (x 1) := congrArg w hx
  refine hw.trans ((h (x 0) (x 1)).trans ?_)
  unfold spot field
  congr 1
  · funext q
    unfold mat
    exact View.ld_unit_apply_of _ _ _ _ _ _ fun b => by fin_cases b <;> simp [h0]
  · have hl (k : Fin 4) (inb'') : mat (a := 1) (b := 1024) (View.ld (Val := Elt Ideal) (e' := .f32) A1 (Rect.unit (s := S4x1024) ![k.val, 0] S1x1024.size inb'')) 0 (x 1)
        = mat (a := 4) (b := 1024) A1 k l := by
      unfold mat
      exact View.ld_unit_apply_of _ _ _ _ _ _ fun b => by fin_cases b <;> simp [h1]
    funext q
    fin_cases q
    · exact hl 0 inb0
    · exact hl 1 inb1
    · exact hl 2 inb2
    · exact hl 3 inb3
  · rw [h0, BitVec.ofNat_add]
    rfl
  · rw [h1, Nat.zero_add]

/-- The stores to the matrix hold its entries. -/
theorem pieces (c : Dev nD) (A0 : Vec Ideal S1024x4 .f32) (A1 : Vec Ideal S4x1024 .f32) (arg0 : Memref sig .tc .vmem S1024x4 .f32) (h0 : arg0.IsWhole)
    (arg1 : Memref sig .tc .vmem S4x1024 .f32) (h1 : arg1.IsWhole) :
    ∀ p ∈ nmsRun.sl.HS0_8 c arg0 h0 arg1 h1 (F := Ideal) A0 A1, ∀ x : p.1.shape.Idx, (p.2 x : EReal) = field A0 A1 (p.1.emb x 0) (p.1.emb x 1) := by
  unfold nmsRun.sl.HS0_8
  sl_unfold_words
  simp only [View.readAt_eq_ld, Memref.IsWhole.read_unread]
  refine List.forall_mem_cons.2 ⟨?_, List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, by simp⟩⟩⟩⟩⟩⟩⟩⟩
  all_goals dsimp only
  · exact piece A0 A1 896 _ _ _ _ _ _ _ fun i j => tile_896 _ _ _ _ _ i j
  · exact piece A0 A1 768 _ _ _ _ _ _ _ fun i j => tile_768 _ _ _ _ _ i j
  · exact piece A0 A1 640 _ _ _ _ _ _ _ fun i j => tile_640 _ _ _ _ _ i j
  · exact piece A0 A1 512 _ _ _ _ _ _ _ fun i j => tile_512 _ _ _ _ _ i j
  · exact piece A0 A1 384 _ _ _ _ _ _ _ fun i j => tile_384 _ _ _ _ _ i j
  · exact piece A0 A1 256 _ _ _ _ _ _ _ fun i j => tile_256 _ _ _ _ _ i j
  · exact piece A0 A1 128 _ _ _ _ _ _ _ fun i j => tile_128 _ _ _ _ _ i j
  · exact piece A0 A1 0 _ _ _ _ _ _ _ fun i j => tile_0 _ _ _ _ _ i j

end Cert.Proof.KernelIdeal
-- ==== Proof.Value.KerNms.lean ====
/-
  The suppression kernel's loop: after trip `k` a lane below 1000 holds 1 where its box is kept by the first `k` boxes and 0 elsewhere;
  its result's first row is the carried vector after a thousand trips.
-/
module

public import proofs.«01_k».proof.Proof.Value.KerTile
public import Idealize.ShloMosaic.Lib.WordCmp

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen
open Cert.Proof.Value

theorem off_row (k : Fin k1_t1_loop.trips) : k1_off1 k = ![k.val, 0] := by
  have hk : k.val < 1000 := Nat.lt_of_lt_of_le k.isLt k1_t1_abs.2.1
  unfold k1_off1
  show ![(0#32 + BitVec.ofNat 32 k.val * 1#32).toNat, 0] = _
  have : (0#32 + BitVec.ofNat 32 k.val * 1#32).toNat = k.val := by simp; omega
  rw [this]

theorem trip_eq (𝒱 c bd) (arg0 : Memref sig .tc .vmem S1024x4 .f32) (harg0 : arg0.IsWhole) (arg1 : Memref sig .tc .vmem S4x1024 .f32) (harg1 : arg1.IsWhole)
    (arg2 : Memref sig .tc .vmem S8x1024 .f32) (harg2 : arg2.IsWhole) (arg3 : Memref sig .tc .vmem S1024x1024 .f32) (harg3 : arg3.IsWhole)
    (X : BufTy.Contents (Elt Ideal) arg3.view.ty) (k : Fin k1_t1_loop.trips) (acc : FVec Ideal S1x1024 .f32) :
    tripR_k1_t1 (F := Ideal) 𝒱 c bd arg0 harg0 arg1 harg1 arg2 harg2 arg3 harg3 X k acc
      = k1_pay3 k acc (View.readAt (Elt Ideal) arg3.view (Rect.unit (s := S1024x1024) (k1_off1 k) S1x1024.size (k1_off1_inb k)).toLoadRect X) := by
  unfold tripR_k1_t1 trip_k1_t1
  rfl

/-- One trip: row `k` of the matrix, taken where lane `k` is kept, clears the lanes it marks. -/
theorem trip_value (k : Fin k1_t1_loop.trips) (hk : k.val < 1024) (acc : FVec Ideal S1x1024 .f32) (row : Vec Ideal S1x1024 .f32) (j : Fin 1024) :
    mat (a := 1) (b := 1024) (k1_pay3 k acc row) 0 j = mat acc 0 j * (1 - mat row 0 j * mat acc 0 ⟨k.val, hk⟩) := by
  unfold mat k1_pay3
  pointwise
  have hw : Scf.iv 0#32 1#32 k.val = BitVec.ofNat 32 k.val := by show 0#32 + BitVec.ofNat 32 k.val * 1#32 = _; simp
  have hs (x : Fin 1024) : Scalar.select (IntOp.cmpi CmpIPredicate.eq (BitVec.ofNat 32 x.val) (Scf.iv 0#32 1#32 k.val)) (acc (ix2 0 x)) (0 : EReal)
      = if x = ⟨k.val, hk⟩ then acc (ix2 0 x) else 0 := by
    rw [hw]
    by_cases hx : x = ⟨k.val, hk⟩
    · rw [if_pos hx, hx]; simp [IntOp.cmpi, Scalar.select]
    · have hne : x.val ≠ k.val := fun h => hx (Fin.ext h)
      have hn : BitVec.ofNat 32 x.val ≠ BitVec.ofNat 32 k.val := fun h => hne (by
        have h' := congrArg BitVec.toNat h
        have := x.isLt
        simp only [BitVec.toNat_ofNat] at h'
        omega)
      rw [if_neg hx]
      simp only [IntOp.cmpi, Scalar.select, beq_eq_false_iff_ne.mpr hn]
      rfl
  rw [Finset.sum_congr rfl fun x _ => hs x, Finset.sum_ite_eq']
  simp

/-- The matrix, as a buffer. -/
def fieldAt (A0 : Vec Ideal S1024x4 .f32) (A1 : Vec Ideal S4x1024 .f32) : Vec Ideal S1024x1024 .f32 := fun y => field A0 A1 (y 0) (y 1)

/-- The matrix as the loop reads it. -/
theorem row_value (c : Dev nD) (A0 : Vec Ideal S1024x4 .f32) (A1 : Vec Ideal S4x1024 .f32) (arg0 : Memref sig .tc .vmem S1024x4 .f32) (h0 : arg0.IsWhole)
    (arg1 : Memref sig .tc .vmem S4x1024 .f32) (h1 : arg1.IsWhole) (arg3 : Memref sig .tc .vmem S1024x1024 .f32) (f : BufTy.Contents (Elt Ideal) arg3.view.ty)
    (k : Fin k1_t1_loop.trips) (hk : k.val < 1024) (j : Fin 1024) :
    mat (a := 1) (b := 1024) (View.readAt (Elt Ideal) arg3.view (Rect.unit (s := S1024x1024) (k1_off1 k) S1x1024.size (k1_off1_inb k)).toLoadRect
      (arg3.view.writes (Elt Ideal) f (nmsRun.sl.HS0_8 c arg0 h0 arg1 h1 (F := Ideal) A0 A1))) 0 j = field A0 A1 ⟨k.val, hk⟩ j := by
  have hcov : ∀ y, ∃ p ∈ nmsRun.sl.HS0_8 c arg0 h0 arg1 h1 (F := Ideal) A0 A1, y ∈ p.1.set := by
    unfold nmsRun.sl.HS0_8
    exact View.cover_of_tiledL _ S128x1024.size (by sl_kernel_rfl)
  unfold mat
  rw [View.readAt_eq_ld, View.read_writes_eq_canon _ _ _ hcov]
  refine (View.ld_unit_apply_of _ _ _ _ _ (ix2 ⟨k.val, hk⟩ j) fun b => ?_).trans ?_
  · refine Eq.trans ?_ (congrArg (· + _) (congrFun (off_row k) b).symm)
    fin_cases b <;> simp
  · refine (View.canon_apply_of_pieces (fieldAt A0 A1) _ (fun p hp x => ?_) _ (hcov _)).trans rfl
    exact pieces c A0 A1 arg0 h0 arg1 h1 p hp x

/-- Where both boxes are candidates the matrix holds whether the one suppresses the other. -/
theorem field_eq (A0 : Vec Ideal S1024x4 .f32) (A1 : Vec Ideal S4x1024 .f32) (b : Fin 1000 → Fin 4 → EReal)
    (h0 : ∀ (n : Fin 1000) q, mat (a := 1024) (b := 4) A0 (n.castLE (by decide)) q = b n q)
    (h1 : ∀ (n : Fin 1000) q, mat (a := 4) (b := 1024) A1 q (n.castLE (by decide)) = b n q) (i j : Fin 1000) :
    field A0 A1 (i.castLE (by decide)) (j.castLE (by decide)) = if suppresses b i j then 1 else 0 := by
  have e0 : mat (a := 1024) (b := 4) A0 (i.castLE (by decide)) = b i := funext (h0 i)
  have e1 : (fun q => mat (a := 4) (b := 1024) A1 q (j.castLE (by decide))) = b j := funext (h1 j)
  unfold field cell suppresses
  rw [e0, e1, WordCmp.cmpi_sgt_ofNat (by have := j.isLt; simp; omega) (by have := i.isLt; simp; omega)]
  have h : ∀ x y : Bool, Scalar.select (IntOp.andi (BitVec.ofBool x) (BitVec.ofBool y)) (1 : EReal) 0 = if x && y then 1 else 0 := by
    intro x y; cases x <;> cases y <;> rfl
  exact h _ _

theorem flip_flag (a s k : Bool) : (if a then (1 : EReal) else 0) * (1 - (if s then 1 else 0) * (if k then 1 else 0)) = if a && !(s && k) then 1 else 0 := by
  have h : (1 : EReal) - 1 = 0 := EReal.sub_self (by decide) (by decide)
  cases a <;> cases s <;> cases k <;> simp [h]

/-- The carried vector after `k` trips. -/
theorem carried (c : Dev nD) (A0 : Vec Ideal S1024x4 .f32) (A1 : Vec Ideal S4x1024 .f32) (arg0 : Memref sig .tc .vmem S1024x4 .f32) (h0 : arg0.IsWhole)
    (arg1 : Memref sig .tc .vmem S4x1024 .f32) (h1 : arg1.IsWhole) (arg2 : Memref sig .tc .vmem S8x1024 .f32) (h2 : arg2.IsWhole)
    (arg3 : Memref sig .tc .vmem S1024x1024 .f32) (h3 : arg3.IsWhole) (f : BufTy.Contents (Elt Ideal) arg3.view.ty) (b : Fin 1000 → Fin 4 → EReal)
    (hb0 : ∀ (n : Fin 1000) q, mat (a := 1024) (b := 4) A0 (n.castLE (by decide)) q = b n q)
    (hb1 : ∀ (n : Fin 1000) q, mat (a := 4) (b := 1024) A1 q (n.castLE (by decide)) = b n q) : ∀ k : ℕ, k ≤ 1000 → ∀ j : Fin 1000,
    mat (a := 1) (b := 1024) (st_k1_t1 (F := Ideal) Variants.none c none arg0 h0 arg1 h1 arg2 h2 arg3 h3
      (arg3.view.writes (Elt Ideal) f (nmsRun.sl.HS0_8 c arg0 h0 arg1 h1 (F := Ideal) A0 A1)) k1_pay2 k) 0 (j.castLE (by decide))
      = if kept (suppresses b) k j then 1 else 0
  | 0, _, j => by
    rw [st_k1_t1_zero]
    unfold mat k1_pay2 kept
    pointwise
  | k + 1, hk1, j => by
    have hk : k < 1000 := hk1
    have ht : k1_t1_loop.trips = 1000 := by decide
    rw [st_k1_t1_succ Variants.none c none arg0 h0 arg1 h1 arg2 h2 arg3 h3 _ _ ⟨k, ht ▸ hk⟩, trip_eq,
      trip_value ⟨k, ht ▸ hk⟩ (by show k < 1024; omega), row_value c A0 A1 arg0 h0 arg1 h1 arg3 f ⟨k, ht ▸ hk⟩ (by show k < 1024; omega)]
    have hf := field_eq A0 A1 b hb0 hb1 ⟨k, hk⟩ j
    have ik := carried c A0 A1 arg0 h0 arg1 h1 arg2 h2 arg3 h3 f b hb0 hb1 k (by omega)
    have i1 := ik j
    have i2 := ik ⟨k, hk⟩
    refine (congrArg₂ (· * ·) i1 (congrArg₂ (fun x y : EReal => 1 - x * y) hf i2)).trans ((flip_flag _ _ _).trans ?_)
    rw [kept, dif_pos hk]

theorem pay4_row (x : FVec Ideal S1x1024 .f32) (j : Fin 1024) : mat (a := 8) (b := 1024) (k1_pay4 x) 0 j = mat (a := 1) (b := 1024) x 0 j := by
  unfold mat k1_pay4
  pointwise

variable (V : (c : Dev nD) → (b : Ref sig .tc) → Buf (Elt Ideal) ((c : Thread nD τ).loc b))

/-- The kernel's result: the flags of the boxes kept. -/
theorem nmsOut_flags (c : Dev nD) (t : Fin cfg1.N) (b : Fin 1000 → Fin 4 → EReal)
    (hb0 : ∀ (n : Fin 1000) q, mat (a := 1024) (b := 4) (nblk V c 0 t) (n.castLE (by decide)) q = b n q)
    (hb1 : ∀ (n : Fin 1000) q, mat (a := 4) (b := 1024) (nblk V c 1 t) q (n.castLE (by decide)) = b n q) (j : Fin 1000) :
    mat (a := 8) (b := 1024) (nmsOut V c t) 0 (j.castLE (by decide)) = if kept (suppresses b) 1000 j then 1 else 0 := by
  have hh : Scf.trips (0#32) (Scalar.addi 0#32 1000#32) 1#32 = 1000 := by decide
  unfold nmsOut
  unfold nmsRun
  dsimp only
  rw [View.canon_cons_unit_lit' _ _ _ (by decide), hh]
  rw [pay4_row]
  exact carried c (nblk V c 0 t) (nblk V c 1 t) (stage1_0 0) (hstage1_0 0) (stage1_1 0) (hstage1_1 0) (stage1_2 0) (hstage1_2 0) nscM
    (Memref.isWhole_whole _) (View.whole cc1_scratch0).junk b hb0 hb1 1000 le_rfl j

end Cert.Proof.KernelIdeal
-- ==== Proof.Value.KerCand.lean ====
/-
  The kernel's candidates, read off the head kernel's arrays: the thousand greatest of the padded scores, and at each its box and
  label; the boxes shifted by label, as the suppression kernel reads them.
-/
module

public import proofs.«01_k».proof.Proof.KernelIdeal.Run
public import proofs.«01_k».proof.Proof.Value.Take
public import Idealize.ShloMosaic.Lib.StableHlo.ReadAt
public import Idealize.ShloMosaic.Lib.Routing.Words

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen
open Cert.Proof.Value

variable (V : Valuation τ sig (Elt Ideal))

/-- Vectors of words, read at a place. -/
def words {a : ℕ} {w : ℕ} (x : IVec ⟨1, ![a]⟩ w) : Fin a → BitVec w := fun r => x (ix1 r)
/-- A thousand rows of 128 lanes, as one axis. -/
def spread (x : FVec Ideal ⟨2, ![1000, 128]⟩ .f32) : Fin 128000 → EReal := fun p => mat x ⟨p.val / 128, by omega⟩ ⟨p.val % 128, by omega⟩

/-- The candidate at place `n` of the first top-k. -/
def chosen (n : Fin 1000) : Fin 128000 := place (by decide : 1000 ≤ 128000) (spread (V (Proc.devRef .tc main_v14_0))) n

theorem flat_v15 : vec (a := 128000) (after hostOps1 V (Proc.devRef .tc main_v15)) = spread (V (Proc.devRef .tc main_v14_0)) := by
  funext p
  unfold vec spread mat
  after_reads_at
theorem top_fst (x : FVec Ideal S128000 .f32) (n : Fin 1000) :
    vec (a := 1000) (Host.topK S1000 0 (FloatOps.cmpfTotal (F := Ideal) (φ := .f32) .gt) x sliceFits_S128000_S1000).1 n
      = vec x (rank (vec (a := 128000) x) (n.castLE (by decide))) := by
  unfold vec
  exact topK_fst (N := 128000) (k := 1000) _ _ (by decide) n
theorem top_snd (x : FVec Ideal S128000 .f32) (n : Fin 1000) :
    words (a := 1000) (Host.topK S1000 0 (FloatOps.cmpfTotal (F := Ideal) (φ := .f32) .gt) x sliceFits_S128000_S1000).2 n
      = BitVec.ofNat 32 (rank (vec (a := 128000) x) (n.castLE (by decide))).val := by
  unfold words vec
  exact topK_snd (N := 128000) (k := 1000) _ _ (by decide) n
theorem values_v15 : after hostOps1 V (Proc.devRef .tc main_values)
    = ((fun x => (Host.topK S1000 0 (FloatOps.cmpfTotal (F := Ideal) (φ := .f32) .gt) x sliceFits_S128000_S1000).1) : (⟨S128000, .f32⟩ : BufTy).Contents (Elt Ideal) → (⟨S1000, .f32⟩ : BufTy).Contents (Elt Ideal))
        (after hostOps1 V (Proc.devRef .tc main_v15)) := by
  after_reads_simp
theorem indices_v15 : after hostOps1 V (Proc.devRef .tc main_indices)
    = ((fun x => (Host.topK S1000 0 (FloatOps.cmpfTotal (F := Ideal) (φ := .f32) .gt) x sliceFits_S128000_S1000).2) : (⟨S128000, .f32⟩ : BufTy).Contents (Elt Ideal) → (⟨S1000, .i32⟩ : BufTy).Contents (Elt Ideal))
        (after hostOps1 V (Proc.devRef .tc main_v15)) := by
  after_reads_simp
theorem cand_values (n : Fin 1000) : vec (a := 1000) (after hostOps1 V (Proc.devRef .tc main_values)) n = spread (V (Proc.devRef .tc main_v14_0)) (chosen V n) := by
  unfold chosen place
  rw [values_v15, ← flat_v15]
  generalize (after hostOps1 V (Proc.devRef .tc main_v15)) = x
  exact top_fst x n
theorem cand_indices (n : Fin 1000) : words (a := 1000) (after hostOps1 V (Proc.devRef .tc main_indices)) n = BitVec.ofNat 32 (chosen V n).val := by
  unfold chosen place
  rw [indices_v15, ← flat_v15]
  generalize (after hostOps1 V (Proc.devRef .tc main_v15)) = x
  exact top_snd x n
theorem cand_modulus : (fun x : IVec ⟨0, ![]⟩ 32 => x ix0) (after hostOps1 V (Proc.devRef .tc main_c_2)) = 128#32 := by
  beta_reduce
  after_reads_at

theorem cand_v16 (n : Fin 1000) (b : ℕ) (hb : b < 2 ^ 31) (hi : words (a := 1000) (V (Proc.devRef .tc main_indices)) n = BitVec.ofNat 32 b)
    (hm : (fun x : IVec ⟨0, ![]⟩ 32 => x ix0) (V (Proc.devRef .tc main_c_2)) = 128#32) :
    words (a := 1000) (after hostOps1_1 V (Proc.devRef .tc main_v16)) n = BitVec.ofNat 32 (b % 128) := by
  unfold words at hi ⊢
  beta_reduce at hm
  after_reads_at
  rw [hi, id, hm, show Scalar.select (IntOp.cmpi .eq 128#32 0#32) 1#32 128#32 = BitVec.ofNat 32 128 from by decide,
    Routing.remsi_word .host hb (by decide) (by decide), slt_zero (b % 128) (by omega), slt_zero 128 (by decide),
    show IntOp.cmpi .ne 0#1 0#1 = 0#1 from by decide]
  generalize IntOp.cmpi .ne (BitVec.ofNat 32 (b % 128)) 0#32 = u
  rw [show IntOp.andi 0#1 u = 0#1 from by revert u; decide]
  rfl

section
variable (n : Fin 1000) (p : Fin 128000) (hi : words (a := 1000) (V (Proc.devRef .tc main_indices)) n = BitVec.ofNat 32 p.val)
include hi
theorem take_v24 : vec (a := 1000) (after hostOps1_2 V (Proc.devRef .tc main_v24)) n = spread (V (Proc.devRef .tc main_v14_1)) p := by
  conv_lhs => unfold vec
  after_reads_at
  refine (Routing.gather_take1 _ rfl rfl rfl rfl _ _ n p (wrap_1000 _ _ n p.val (by omega) hi _ _ _) (by decide)).trans ?_
  unfold spread mat
  pointwise
theorem take_v32 : vec (a := 1000) (after hostOps1_2 V (Proc.devRef .tc main_v32)) n = spread (V (Proc.devRef .tc main_v14_2)) p := by
  conv_lhs => unfold vec
  after_reads_at
  refine (Routing.gather_take1 _ rfl rfl rfl rfl _ _ n p (wrap_1000 _ _ n p.val (by omega) hi _ _ _) (by decide)).trans ?_
  unfold spread mat
  pointwise
theorem take_v40 : vec (a := 1000) (after hostOps1_2 V (Proc.devRef .tc main_v40)) n = spread (V (Proc.devRef .tc main_v14_3)) p := by
  conv_lhs => unfold vec
  after_reads_at
  refine (Routing.gather_take1 _ rfl rfl rfl rfl _ _ n p (wrap_1000 _ _ n p.val (by omega) hi _ _ _) (by decide)).trans ?_
  unfold spread mat
  pointwise
theorem take_v48 : vec (a := 1000) (after hostOps1_2 V (Proc.devRef .tc main_v48)) n = spread (V (Proc.devRef .tc main_v14_4)) p := by
  conv_lhs => unfold vec
  after_reads_at
  refine (Routing.gather_take1 _ rfl rfl rfl rfl _ _ n p (wrap_1000 _ _ n p.val (by omega) hi _ _ _) (by decide)).trans ?_
  unfold spread mat
  pointwise
end

/-- What the first `k` operations leave at a buffer none of the later ones writes. -/
theorem upto_keep (k : ℕ) (r : Ref sig .tc) (hW : (hostOps1_2 (F := Ideal).drop k).map HloOp.writes = (hostOps1_2_W.drop k).map fun w => {Proc.devRef (τ := τ) .tc w})
    (hr : r ∉ hostOps1_2_W.drop k) : upto hostOps1_2 V k (Proc.devRef .tc r) = after hostOps1_2 V (Proc.devRef .tc r) := by
  have h : after hostOps1_2 V = after (hostOps1_2.drop k) (upto hostOps1_2 V k) := by
    rw [upto, ← StableHlo.after_append, List.take_append_drop]
  rw [h]
  exact (after_of_writes_sub (W := hostOps1_2_W.drop k) _ _ (StableHlo.forall_writes_sub_of_map hW) hr).symm

theorem buf_v53 : after hostOps1_2 V (Proc.devRef .tc main_v53)
    = concatenate S1000x4 1 [⟨S1000x1, after hostOps1_2 V (Proc.devRef .tc main_v49)⟩, ⟨S1000x1, after hostOps1_2 V (Proc.devRef .tc main_v50)⟩,
        ⟨S1000x1, after hostOps1_2 V (Proc.devRef .tc main_v51)⟩, ⟨S1000x1, after hostOps1_2 V (Proc.devRef .tc main_v52)⟩]
        concatenates_S1000x1_S1000x1_S1000x1_S1000x1_S1000x4_d1 := by
  refine (after_last_write (i := 44) (hostOps1_2_W.drop 45) rfl rfl (by decide) V).trans ?_
  refine (nary_result' _ _ _ _ _).trans ?_
  rw [← upto_keep V 44 main_v49 rfl (by decide), ← upto_keep V 44 main_v50 rfl (by decide), ← upto_keep V 44 main_v51 rfl (by decide),
    ← upto_keep V 44 main_v52 rfl (by decide)]
  rfl
theorem buf_v61 : after hostOps1_2 V (Proc.devRef .tc main_v61)
    = (addf : FVec Ideal S1000x4 .f32 → _ → _) (after hostOps1_2 V (Proc.devRef .tc main_v53)) (after hostOps1_2 V (Proc.devRef .tc main_v60)) := by
  refine (after_last_write (i := 54) (hostOps1_2_W.drop 55) rfl rfl (by decide) V).trans ?_
  refine (binary_result' _ _ _ _ _).trans ?_
  rw [← upto_keep V 54 main_v53 rfl (by decide), ← upto_keep V 54 main_v60 rfl (by decide)]
theorem buf_v73 : after hostOps1_2 V (Proc.devRef .tc main_v73)
    = concatenate S1024x4 0 [⟨S1000x4, after hostOps1_2 V (Proc.devRef .tc main_v61)⟩, ⟨S24x4, after hostOps1_2 V (Proc.devRef .tc main_v72)⟩]
        concatenates_S1000x4_S24x4_S1024x4_d0 := by
  refine (after_last_write (i := 70) (hostOps1_2_W.drop 71) rfl rfl (by decide) V).trans ?_
  refine (binary_result' _ _ _ _ _).trans ?_
  rw [← upto_keep V 70 main_v61 rfl (by decide), ← upto_keep V 70 main_v72 rfl (by decide)]
theorem buf_v74 : after hostOps1_2 V (Proc.devRef .tc main_v74)
    = transpose S4x1024 [1, 0] (after hostOps1_2 V (Proc.devRef .tc main_v73) : FVec Ideal S1024x4 .f32) transposes_S1024x4_S4x1024_1_0 := by
  refine (after_last_write (i := 71) (hostOps1_2_W.drop 72) rfl rfl (by decide) V).trans ?_
  refine (unary_result' _ _ _ _).trans ?_
  rw [← upto_keep V 71 main_v73 rfl (by decide)]

theorem cat_cols (x0 x1 x2 x3 : FVec Ideal S1000x1 .f32) (n : Fin 1000) (q : Fin 4) :
    mat (a := 1000) (b := 4) (concatenate S1000x4 1 [⟨S1000x1, x0⟩, ⟨S1000x1, x1⟩, ⟨S1000x1, x2⟩, ⟨S1000x1, x3⟩]
        concatenates_S1000x1_S1000x1_S1000x1_S1000x1_S1000x4_d1) n q
      = (![mat (a := 1000) (b := 1) x0 n 0, mat (a := 1000) (b := 1) x1 n 0, mat (a := 1000) (b := 1) x2 n 0, mat (a := 1000) (b := 1) x3 n 0] q) := by
  unfold mat
  fin_cases q <;> pointwise <;> rfl
theorem cat_rows (x : FVec Ideal S1000x4 .f32) (y : FVec Ideal S24x4 .f32) (n : Fin 1000) (q : Fin 4) :
    mat (a := 1024) (b := 4) (concatenate S1024x4 0 [⟨S1000x4, x⟩, ⟨S24x4, y⟩] concatenates_S1000x4_S24x4_S1024x4_d0) (n.castLE (by decide)) q = mat x n q := by
  unfold mat
  pointwise
  exact dif_pos n.isLt

theorem col_v49 (n : Fin 1000) : mat (a := 1000) (b := 1) (after hostOps1_2 V (Proc.devRef .tc main_v49)) n 0
    = vec (a := 1000) (after hostOps1_2 V (Proc.devRef .tc main_v24)) n := by
  unfold mat vec
  after_reads_at
theorem col_v50 (n : Fin 1000) : mat (a := 1000) (b := 1) (after hostOps1_2 V (Proc.devRef .tc main_v50)) n 0
    = vec (a := 1000) (after hostOps1_2 V (Proc.devRef .tc main_v32)) n := by
  unfold mat vec
  after_reads_at
theorem col_v51 (n : Fin 1000) : mat (a := 1000) (b := 1) (after hostOps1_2 V (Proc.devRef .tc main_v51)) n 0
    = vec (a := 1000) (after hostOps1_2 V (Proc.devRef .tc main_v40)) n := by
  unfold mat vec
  after_reads_at
theorem col_v52 (n : Fin 1000) : mat (a := 1000) (b := 1) (after hostOps1_2 V (Proc.devRef .tc main_v52)) n 0
    = vec (a := 1000) (after hostOps1_2 V (Proc.devRef .tc main_v48)) n := by
  unfold mat vec
  after_reads_at
theorem col_v60 (n : Fin 1000) (q : Fin 4) : mat (a := 1000) (b := 4) (after hostOps1_2 V (Proc.devRef .tc main_v60)) n q
    = FloatOps.sitofp (F := Ideal) .f32 (words (a := 1000) (V (Proc.devRef .tc main_v16)) n) * Ideal.ofBits .f32 0x44FA0000#32 := by
  unfold mat words
  after_reads_at

theorem cat_v53 (n : Fin 1000) (q : Fin 4) (p : Fin 128000) (hi : words (a := 1000) (V (Proc.devRef .tc main_indices)) n = BitVec.ofNat 32 p.val) :
    mat (a := 1000) (b := 4) (after hostOps1_2 V (Proc.devRef .tc main_v53)) n q
    = ![spread (V (Proc.devRef .tc main_v14_1)) p, spread (V (Proc.devRef .tc main_v14_2)) p,
        spread (V (Proc.devRef .tc main_v14_3)) p, spread (V (Proc.devRef .tc main_v14_4)) p] q := by
  rw [buf_v53, cat_cols, col_v49, col_v50, col_v51, col_v52, take_v24 V n p hi, take_v32 V n p hi, take_v40 V n p hi, take_v48 V n p hi]
theorem cand_v55 (n : Fin 1000) : words (a := 1000) (after hostOps1_2 V (Proc.devRef .tc main_v55)) n
    = BitVec.ofBool (decide (0 < vec (a := 1000) (V (Proc.devRef .tc main_values)) n)) := by
  unfold words vec
  after_reads_at
/-- The boxes the suppression kernel reads: a candidate's box, shifted by its label. -/
theorem cand_v74 (n : Fin 1000) (q : Fin 4) : mat (a := 4) (b := 1024) (after hostOps1_2 V (Proc.devRef .tc main_v74)) q (n.castLE (by decide))
    = mat (a := 1000) (b := 4) (after hostOps1_2 V (Proc.devRef .tc main_v53)) n q
      + FloatOps.sitofp (F := Ideal) .f32 (words (a := 1000) (V (Proc.devRef .tc main_v16)) n) * Ideal.ofBits .f32 0x44FA0000#32 := by
  rw [← col_v60]
  refine Eq.trans ?_ (cat_rows _ (after hostOps1_2 V (Proc.devRef .tc main_v72)) n q |>.trans (congrArg (fun x => mat (a := 1000) (b := 4) x n q) (buf_v61 V)))
  rw [buf_v74, buf_v73]
  unfold mat
  pointwise
theorem cand_v73 (x : Fin 1024) (q : Fin 4) : mat (a := 1024) (b := 4) (after hostOps1_2 V (Proc.devRef .tc main_v73)) x q
    = mat (a := 4) (b := 1024) (after hostOps1_2 V (Proc.devRef .tc main_v74)) q x := by
  rw [buf_v74]
  unfold mat
  pointwise

end Cert.Proof.KernelIdeal
-- ==== Proof.Value.KerTail.lean ====
/-
  The kernel's result: the hundred best of the candidates the suppression kept, each with its box and its score.
-/
module

public import proofs.«01_k».proof.Proof.Value.KerNms
public import proofs.«01_k».proof.Proof.Value.KerCand

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen
open Cert.Proof.Value

/-- A scalar buffer's one entry. -/
def scal (x : FVec Ideal ⟨0, ![]⟩ .f32) : EReal := x ix0

section
variable (V : Valuation τ sig (Elt Ideal))

theorem tail_v80 (n : Fin 1000) : words (a := 1000) (after hostOps2 V (Proc.devRef .tc main_v80)) n
    = IntOp.andi (BitVec.ofBool (decide (Ideal.ofBits .f32 0x3F000000#32 < mat (a := 8) (b := 1024) (V (Proc.devRef .tc main_v75)) 0 (n.castLE (by decide)))))
        (words (a := 1000) (V (Proc.devRef .tc main_v55)) n) := by
  unfold words mat
  after_reads_at
  rfl
theorem tail_cst : scal (after hostOps2 V (Proc.devRef .tc main_cst_18)) = Ideal.ofBits .f32 0xBF800000#32 := by
  unfold scal
  after_reads_at
theorem tail_v81 (n : Fin 1000) : vec (a := 1000) (after hostOps2_1 V (Proc.devRef .tc main_v81)) n
    = Scalar.select (words (a := 1000) (V (Proc.devRef .tc main_v80)) n) (vec (a := 1000) (V (Proc.devRef .tc main_values)) n) (scal (V (Proc.devRef .tc main_cst_18))) := by
  unfold vec words scal
  after_reads_at
  rfl
theorem tail_cat : after hostOps2_2 V (Proc.devRef .tc main_v106)
    = concatenate S100x5 1 [⟨S100x4, after hostOps2_2 V (Proc.devRef .tc main_v88)⟩, ⟨S100x1, after hostOps2_2 V (Proc.devRef .tc main_v105)⟩] concatenates_S100x4_S100x1_S100x5_d1 := by
  have key (r : Ref sig .tc) (hr : r ∉ [main_v106]) : upto hostOps2_2 V 32 (Proc.devRef .tc r) = after hostOps2_2 V (Proc.devRef .tc r) := by
    have h : after hostOps2_2 V = after (hostOps2_2.drop 32) (upto hostOps2_2 V 32) := by
      rw [upto, ← StableHlo.after_append, List.take_append_drop]
    rw [h]
    exact (after_of_writes_sub (W := [main_v106]) _ _ (StableHlo.forall_writes_sub_of_map rfl) hr).symm
  after_reads_simp
  rw [key main_v88 (by decide), key main_v105 (by decide)]
theorem tail_v88 (n : Fin 100) (q : Fin 4) : mat (a := 100) (b := 4) (after hostOps2_2 V (Proc.devRef .tc main_v88)) n q
    = mat (a := 1000) (b := 4) (V (Proc.devRef .tc main_v53)) (place (by decide : 100 ≤ 1000) (vec (a := 1000) (V (Proc.devRef .tc main_v81))) n) q := by
  unfold mat place vec
  after_reads_at
  refine Routing.gather_row _ rfl rfl rfl rfl rfl _ _ n q _ ?_ (by decide)
  exact wrap_100 _ _ n _ (by omega) (topK_snd (N := 1000) (k := 100) _ _ (by decide) n) _ _ _
theorem tail_v105 (n : Fin 100) : mat (a := 100) (b := 1) (after hostOps2_2 V (Proc.devRef .tc main_v105)) n 0
    = vec (a := 1000) (V (Proc.devRef .tc main_values)) (place (by decide : 100 ≤ 1000) (vec (a := 1000) (V (Proc.devRef .tc main_v81))) n)
      * FloatOps.uitofp (F := Ideal) .f32 (words (a := 1000) (V (Proc.devRef .tc main_v80)) (place (by decide : 100 ≤ 1000) (vec (a := 1000) (V (Proc.devRef .tc main_v81))) n)) := by
  unfold mat words place
  conv_rhs => unfold vec
  after_reads_at
  refine congrArg₂ (· * ·) ?_ (congrArg (FloatOps.uitofp (F := Ideal) .f32) ?_)
  · refine Routing.gather_take1 _ rfl rfl rfl rfl _ _ n _ ?_ (by decide)
    exact wrap_100 _ _ n _ (by omega) (topK_snd (N := 1000) (k := 100) _ _ (by decide) n) _ _ _
  · refine Routing.gather_take1 _ rfl rfl rfl rfl _ _ n _ ?_ (by decide)
    exact wrap_100 _ _ n _ (by omega) (topK_snd (N := 1000) (k := 100) _ _ (by decide) n) _ _ _
theorem cat_box (x : FVec Ideal S100x4 .f32) (y : FVec Ideal S100x1 .f32) (n : Fin 100) (q : Fin 4) :
    mat (a := 100) (b := 5) (concatenate S100x5 1 [⟨S100x4, x⟩, ⟨S100x1, y⟩] concatenates_S100x4_S100x1_S100x5_d1) n q.castSucc = mat x n q := by
  unfold mat
  pointwise
  exact dif_pos q.isLt
theorem cat_score (x : FVec Ideal S100x4 .f32) (y : FVec Ideal S100x1 .f32) (n : Fin 100) (q : Fin 5) (hq : q.val = 4) :
    mat (a := 100) (b := 5) (concatenate S100x5 1 [⟨S100x4, x⟩, ⟨S100x1, y⟩] concatenates_S100x4_S100x1_S100x5_d1) n q = mat y n 0 := by
  unfold mat
  pointwise
  rw [dif_neg (by omega)]
  congr 2
  exact Fin.ext (by simp [hq])
end

section
variable (V : (c : Dev nD) → (b : Ref sig .tc) → Buf (Elt Ideal) ((c : Thread nD τ).loc b)) (c : Dev nD)
theorem idx_nms : ∀ t : Fin grid1.N, win1_0.index t = ![0, 0] ∧ win1_1.index t = ![0, 0] ∧ win1_2.index t = ![0, 0] := by
  decide +kernel
theorem nms_0 (t : Fin cfg1.N) : mat (a := 1024) (b := 4) (nblk V c 0 t) = mat (a := 1024) (b := 4) (V c main_v73) := by
  funext r l
  unfold mat
  blk_ext [nblk, idx_nms t]
theorem nms_1 (t : Fin cfg1.N) : mat (a := 4) (b := 1024) (nblk V c 1 t) = mat (a := 4) (b := 1024) (V c main_v74) := by
  funext r l
  unfold mat
  blk_ext [nblk, idx_nms t]
theorem nms_2 : (ndat V c).arrAt 2 cfg1.N = nmsOut V c t1_0 := by
  refine (ndat V c).arrAt_eq_of_after_last 2 t1_0 (by decide +kernel) _ fun j => ?_
  blk_simp
  rw [nafter_2]
end

variable (m : (ℓ : Loc nD τ sig) → Buf (Elt Ideal) ℓ) (c : Dev nD)

/-- The candidates as the kernel holds them: scores, boxes, and boxes shifted by label. -/
def kValues : Fin 1000 → EReal := vec (a := 1000) (V13 m (outs m) c (Proc.devRef .tc main_values))
def kBoxes : Fin 1000 → Fin 4 → EReal := mat (a := 1000) (b := 4) (V13 m (outs m) c (Proc.devRef .tc main_v53))
def kShifted (n : Fin 1000) (q : Fin 4) : EReal := mat (a := 4) (b := 1024) (V13 m (outs m) c (Proc.devRef .tc main_v74)) q (n.castLE (by decide))
def kFlags : Fin 1000 → Bool := flag (kValues m c) (kShifted m c)
/-- The candidate the kernel puts at place `n` of its result. -/
def kBest : Fin 100 → Fin 1000 := picked (kValues m c) (kFlags m c)

theorem nms_flags (j : Fin 1000) : mat (a := 8) (b := 1024) (V14 m (outs m) c (Proc.devRef .tc main_v75)) 0 (j.castLE (by decide))
    = if kept (suppresses (kShifted m c)) 1000 j then 1 else 0 := by
  rw [V14_out, show outs m 14 main_v75 c = nmsOut (fun c b => V13 m (outs m) c b) c t1_0 from (nOut m c 2).trans (nms_2 _ c)]
  refine nmsOut_flags _ c t1_0 (kShifted m c) (fun n q => ?_) (fun n q => ?_) j
  · rw [nms_0]
    exact cand_v73 (V12 m (outs m) c) _ q
  · rw [nms_1]
    rfl

theorem half_flag (b : Bool) : decide (Ideal.ofBits .f32 0x3F000000#32 < (if b then (1 : EReal) else 0)) = b := by
  have h : Ideal.ofBits .f32 0x3F000000#32 = ((1 / 2 : ℝ) : EReal) := by
    simp [Ideal.ofBits, Ideal.ieee]
    rw [← EReal.coe_mul]
    norm_num
  have h0 : ¬ ((1 / 2 : ℝ) : EReal) < 0 := not_lt.mpr (by exact_mod_cast (by norm_num : (0 : ℝ) ≤ 1 / 2))
  have h1 : ((1 / 2 : ℝ) : EReal) < 1 := by exact_mod_cast (by norm_num : (1 / 2 : ℝ) < 1)
  rw [h]
  cases b
  · exact decide_eq_false h0
  · exact decide_eq_true h1

theorem V15_v80 (j : Fin 1000) : words (a := 1000) (V15 m (outs m) c (Proc.devRef .tc main_v80)) j = BitVec.ofBool (kFlags m c j) := by
  refine (tail_v80 (V14 m (outs m) c) j).trans ?_
  rw [nms_flags, half_flag, V14_of m (outs m) c main_v55 (by decide)]
  refine (congrArg (IntOp.andi _) (cand_v55 (V12 m (outs m) c) j)).trans ?_
  rw [← V13_of m (outs m) c main_values (by decide)]
  have h : ∀ a b : Bool, IntOp.andi (BitVec.ofBool a) (BitVec.ofBool b) = BitVec.ofBool (a && b) := by decide
  exact h _ _
theorem V15_values : V15 m (outs m) c (Proc.devRef .tc main_values) = V13 m (outs m) c (Proc.devRef .tc main_values) :=
  (V15_of m (outs m) c main_values (by decide)).trans (V14_of m (outs m) c main_values (by decide))
theorem V16_v81 : vec (a := 1000) (V16 m (outs m) c (Proc.devRef .tc main_v81)) = ranked (kValues m c) (kFlags m c) := by
  funext j
  refine (tail_v81 (V15 m (outs m) c) j).trans ?_
  rw [V15_v80, V15_values, ranked, show scal (V15 m (outs m) c (Proc.devRef .tc main_cst_18)) = _ from tail_cst (V14 m (outs m) c)]
  cases kFlags m c j <;> rfl

theorem kernel_box (n : Fin 100) (q : Fin 4) : mat (a := 100) (b := 5) (V17 m (outs m) c (Proc.devRef .tc main_v106)) n q.castSucc
    = kBoxes m c (kBest m c n) q := by
  rw [show V17 m (outs m) c (Proc.devRef .tc main_v106) = _ from tail_cat (V16 m (outs m) c), cat_box]
  refine (tail_v88 _ n q).trans ?_
  rw [V16_v81, V16_of m (outs m) c main_v53 (by decide), V15_of m (outs m) c main_v53 (by decide), V14_of m (outs m) c main_v53 (by decide)]
  rfl
theorem kernel_score (n : Fin 100) (q : Fin 5) (hq : q.val = 4) : mat (a := 100) (b := 5) (V17 m (outs m) c (Proc.devRef .tc main_v106)) n q
    = kValues m c (kBest m c n) * FloatOps.uitofp (F := Ideal) .f32 (BitVec.ofBool (kFlags m c (kBest m c n))) := by
  rw [show V17 m (outs m) c (Proc.devRef .tc main_v106) = _ from tail_cat (V16 m (outs m) c), cat_score _ _ _ _ hq]
  refine (tail_v105 _ n).trans ?_
  rw [V16_v81, V16_of m (outs m) c main_values (by decide), V15_values, V16_of m (outs m) c main_v80 (by decide), V15_v80]
  rfl

end Cert.Proof.KernelIdeal
-- ==== Proof.Value.RefHead.lean ====
/-
  The reference's detection head: what its host buffers hold before the suppression loop, stretch by stretch, as the scalar
  functions of `Value/Spec` of @main's arguments. `Wk V` is the contents after the first `k` stretches from `V`.
-/
module

public import proofs.«01_k».proof.Proof.Reference.Run
public import proofs.«01_k».proof.Proof.Value.Spec
public import Idealize.ShloMosaic.Lib.StableHlo.ReadAt

@[expose] public section

set_option maxRecDepth 16384

noncomputable section

namespace Cert.Proof.Reference

open Idealize.ShloMosaic Idealize.ShloMosaic.TcCoe Idealize.ShloMosaic.StableHlo
open Cert.ReferenceIdeal Cert.ReferenceIdeal.Gen Cert.ReferenceIdeal.Value
open Cert.Proof.Value

variable (V : Valuation τ sig (Elt Ideal))

def W1 : Valuation τ sig (Elt Ideal) := after hostOps0 V
theorem W1_of (r : Ref sig .tc) (h : r ∉ hostOps0_W) : W1 V (Proc.devRef .tc r) = V (Proc.devRef .tc r) :=
  after_of_writes_sub hostOps0 _ hostOps0_writes h

def W2 : Valuation τ sig (Elt Ideal) := after hostOps0_1 (W1 V)
theorem W2_of (r : Ref sig .tc) (h : r ∉ hostOps0_1_W) : W2 V (Proc.devRef .tc r) = (W1 V) (Proc.devRef .tc r) :=
  after_of_writes_sub hostOps0_1 _ hostOps0_1_writes h

def W3 : Valuation τ sig (Elt Ideal) := after hostOps0_2 (W2 V)
theorem W3_of (r : Ref sig .tc) (h : r ∉ hostOps0_2_W) : W3 V (Proc.devRef .tc r) = (W2 V) (Proc.devRef .tc r) :=
  after_of_writes_sub hostOps0_2 _ hostOps0_2_writes h

def W4 : Valuation τ sig (Elt Ideal) := after hostOps0_3 (W3 V)
theorem W4_of (r : Ref sig .tc) (h : r ∉ hostOps0_3_W) : W4 V (Proc.devRef .tc r) = (W3 V) (Proc.devRef .tc r) :=
  after_of_writes_sub hostOps0_3 _ hostOps0_3_writes h

def W5 : Valuation τ sig (Elt Ideal) := after hostOps0_4 (W4 V)
theorem W5_of (r : Ref sig .tc) (h : r ∉ hostOps0_4_W) : W5 V (Proc.devRef .tc r) = (W4 V) (Proc.devRef .tc r) :=
  after_of_writes_sub hostOps0_4 _ hostOps0_4_writes h

def W6 : Valuation τ sig (Elt Ideal) := after hostOps0_5 (W5 V)
theorem W6_of (r : Ref sig .tc) (h : r ∉ hostOps0_5_W) : W6 V (Proc.devRef .tc r) = (W5 V) (Proc.devRef .tc r) :=
  after_of_writes_sub hostOps0_5 _ hostOps0_5_writes h

def W7 : Valuation τ sig (Elt Ideal) := after hostOps0_6 (W6 V)
theorem W7_of (r : Ref sig .tc) (h : r ∉ hostOps0_6_W) : W7 V (Proc.devRef .tc r) = (W6 V) (Proc.devRef .tc r) :=
  after_of_writes_sub hostOps0_6 _ hostOps0_6_writes h

def W8 : Valuation τ sig (Elt Ideal) := after hostOps0_7 (W7 V)
theorem W8_of (r : Ref sig .tc) (h : r ∉ hostOps0_7_W) : W8 V (Proc.devRef .tc r) = (W7 V) (Proc.devRef .tc r) :=
  after_of_writes_sub hostOps0_7 _ hostOps0_7_writes h

def W9 : Valuation τ sig (Elt Ideal) := after hostOps0_8 (W8 V)
theorem W9_of (r : Ref sig .tc) (h : r ∉ hostOps0_8_W) : W9 V (Proc.devRef .tc r) = (W8 V) (Proc.devRef .tc r) :=
  after_of_writes_sub hostOps0_8 _ hostOps0_8_writes h

def W10 : Valuation τ sig (Elt Ideal) := after hostOps0_9 (W9 V)
theorem W10_of (r : Ref sig .tc) (h : r ∉ hostOps0_9_W) : W10 V (Proc.devRef .tc r) = (W9 V) (Proc.devRef .tc r) :=
  after_of_writes_sub hostOps0_9 _ hostOps0_9_writes h

def W11 : Valuation τ sig (Elt Ideal) := after hostOps0_10 (W10 V)
theorem W11_of (r : Ref sig .tc) (h : r ∉ hostOps0_10_W) : W11 V (Proc.devRef .tc r) = (W10 V) (Proc.devRef .tc r) :=
  after_of_writes_sub hostOps0_10 _ hostOps0_10_writes h

def W12 : Valuation τ sig (Elt Ideal) := after hostOps0_11 (W11 V)
theorem W12_of (r : Ref sig .tc) (h : r ∉ hostOps0_11_W) : W12 V (Proc.devRef .tc r) = (W11 V) (Proc.devRef .tc r) :=
  after_of_writes_sub hostOps0_11 _ hostOps0_11_writes h

def W13 : Valuation τ sig (Elt Ideal) := after hostOps0_12 (W12 V)
theorem W13_of (r : Ref sig .tc) (h : r ∉ hostOps0_12_W) : W13 V (Proc.devRef .tc r) = (W12 V) (Proc.devRef .tc r) :=
  after_of_writes_sub hostOps0_12 _ hostOps0_12_writes h

def W14 : Valuation τ sig (Elt Ideal) := after hostOps0_13 (W13 V)
theorem W14_of (r : Ref sig .tc) (h : r ∉ hostOps0_13_W) : W14 V (Proc.devRef .tc r) = (W13 V) (Proc.devRef .tc r) :=
  after_of_writes_sub hostOps0_13 _ hostOps0_13_writes h

def W15 : Valuation τ sig (Elt Ideal) := after hostOps0_14 (W14 V)
theorem W15_of (r : Ref sig .tc) (h : r ∉ hostOps0_14_W) : W15 V (Proc.devRef .tc r) = (W14 V) (Proc.devRef .tc r) :=
  after_of_writes_sub hostOps0_14 _ hostOps0_14_writes h

theorem W2_arg4 : W2 V (Proc.devRef .tc main_arg4) = V (Proc.devRef .tc main_arg4) := by
  rw [W2_of V _ (by decide), W1_of V _ (by decide)]

theorem W2_arg5 : W2 V (Proc.devRef .tc main_arg5) = V (Proc.devRef .tc main_arg5) := by
  rw [W2_of V _ (by decide), W1_of V _ (by decide)]

theorem W4_arg1 : W4 V (Proc.devRef .tc main_arg1) = V (Proc.devRef .tc main_arg1) := by
  rw [W4_of V _ (by decide), W3_of V _ (by decide), W2_of V _ (by decide), W1_of V _ (by decide)]

theorem W4_arg6 : W4 V (Proc.devRef .tc main_arg6) = V (Proc.devRef .tc main_arg6) := by
  rw [W4_of V _ (by decide), W3_of V _ (by decide), W2_of V _ (by decide), W1_of V _ (by decide)]

theorem W4_arg7 : W4 V (Proc.devRef .tc main_arg7) = V (Proc.devRef .tc main_arg7) := by
  rw [W4_of V _ (by decide), W3_of V _ (by decide), W2_of V _ (by decide), W1_of V _ (by decide)]

theorem W4_arg8 : W4 V (Proc.devRef .tc main_arg8) = V (Proc.devRef .tc main_arg8) := by
  rw [W4_of V _ (by decide), W3_of V _ (by decide), W2_of V _ (by decide), W1_of V _ (by decide)]

theorem W4_arg9 : W4 V (Proc.devRef .tc main_arg9) = V (Proc.devRef .tc main_arg9) := by
  rw [W4_of V _ (by decide), W3_of V _ (by decide), W2_of V _ (by decide), W1_of V _ (by decide)]

/-- The proposals' features, the weights and the biases, as the launch holds them. -/
def feats := feat (V (Proc.devRef .tc main_arg0))
def props := mat (a := 1000) (b := 4) (V (Proc.devRef .tc main_arg1))
def w1 := mat (a := 1024) (b := 12544) (V (Proc.devRef .tc main_arg2))
def b1 := vec (a := 1024) (V (Proc.devRef .tc main_arg3))
def w2 := mat (a := 1024) (b := 1024) (V (Proc.devRef .tc main_arg4))
def b2 := vec (a := 1024) (V (Proc.devRef .tc main_arg5))
def wc := mat (a := 91) (b := 1024) (V (Proc.devRef .tc main_arg6))
def bc := vec (a := 91) (V (Proc.devRef .tc main_arg7))
def wr := mat (a := 364) (b := 1024) (V (Proc.devRef .tc main_arg8))
def br := vec (a := 364) (V (Proc.devRef .tc main_arg9))
/-- The second hidden activation, the class logits and the regression rows. -/
def act := hidden (hidden (feats V) (w1 V) (b1 V)) (w2 V) (b2 V)
def logits := affine (act V) (wc V) (bc V)
def deltas := affine (act V) (wr V) (br V)

theorem W1_v5 : mat (a := 1000) (b := 1024) (W1 V (Proc.devRef .tc main_v5)) = affine (feats V) (w1 V) (b1 V) := by
  funext r l
  unfold W1 feats w1 b1 mat vec affine feat
  after_reads_at
theorem relu_v6 (r : Fin 1000) (l : Fin 1024) : mat (a := 1000) (b := 1024) (after hostOps0_1 V (Proc.devRef .tc main_v6)) r l
    = max (mat (a := 1000) (b := 1024) (V (Proc.devRef .tc main_v5)) r l) 0 := by
  unfold mat
  after_reads_at
theorem W2_v6 : mat (a := 1000) (b := 1024) (W2 V (Proc.devRef .tc main_v6)) = hidden (feats V) (w1 V) (b1 V) := by
  funext r l
  exact (relu_v6 (W1 V) r l).trans (by rw [W1_v5]; rfl)
theorem layer_v11 (r : Fin 1000) (l : Fin 1024) : mat (a := 1000) (b := 1024) (after hostOps0_2 V (Proc.devRef .tc main_v11)) r l
    = affine (mat (a := 1000) (b := 1024) (V (Proc.devRef .tc main_v6))) (w2 V) (b2 V) r l := by
  unfold w2 b2 mat vec affine
  after_reads_at
theorem W3_v11 : mat (a := 1000) (b := 1024) (W3 V (Proc.devRef .tc main_v11)) = affine (hidden (feats V) (w1 V) (b1 V)) (w2 V) (b2 V) := by
  funext r l
  refine (layer_v11 (W2 V) r l).trans ?_
  rw [W2_v6, show w2 (W2 V) = w2 V by unfold w2; rw [W2_arg4], show b2 (W2 V) = b2 V by unfold b2; rw [W2_arg5]]
theorem relu_v12 (r : Fin 1000) (l : Fin 1024) : mat (a := 1000) (b := 1024) (after hostOps0_3 V (Proc.devRef .tc main_v12)) r l
    = max (mat (a := 1000) (b := 1024) (V (Proc.devRef .tc main_v11)) r l) 0 := by
  unfold mat
  after_reads_at
theorem W4_v12 : mat (a := 1000) (b := 1024) (W4 V (Proc.devRef .tc main_v12)) = act V := by
  funext r l
  exact (relu_v12 (W3 V) r l).trans (by rw [W3_v11]; rfl)

theorem bits_neg_inf : Ideal.ofBits .f32 0xFF800000#32 = ⊥ := by simp [Ideal.ofBits, Ideal.ieee]

theorem softmax_v34 (r : Fin 1000) (l : Fin 91) : mat (a := 1000) (b := 91) (after hostOps0_4 V (Proc.devRef .tc main_v34)) r l
    = prob (affine (mat (a := 1000) (b := 1024) (V (Proc.devRef .tc main_v12))) (wc V) (bc V) r) l := by
  unfold wc bc mat vec affine prob peak
  after_reads_at
  rw [bits_neg_inf]
  simp only [max_bot_left]
theorem W4_logits : affine (mat (a := 1000) (b := 1024) (W4 V (Proc.devRef .tc main_v12))) (wc (W4 V)) (bc (W4 V)) = logits V := by
  rw [W4_v12, show wc (W4 V) = wc V by unfold wc; rw [W4_arg6], show bc (W4 V) = bc V by unfold bc; rw [W4_arg7]]; rfl
theorem W4_deltas : affine (mat (a := 1000) (b := 1024) (W4 V (Proc.devRef .tc main_v12))) (wr (W4 V)) (br (W4 V)) = deltas V := by
  rw [W4_v12, show wr (W4 V) = wr V by unfold wr; rw [W4_arg8], show br (W4 V) = br V by unfold br; rw [W4_arg9]]; rfl
theorem W4_props : props (W4 V) = props V := by unfold props; rw [W4_arg1]
theorem W5_v34 (r : Fin 1000) (l : Fin 91) : mat (a := 1000) (b := 91) (W5 V (Proc.devRef .tc main_v34)) r l = prob (logits V r) l :=
  (softmax_v34 (W4 V) r l).trans (by rw [W4_logits])

theorem mid_v80 (r : Fin 1000) (l : Fin 91) : mat (a := 1000) (b := 91) (after hostOps0_4 V (Proc.devRef .tc main_v80)) r l
    = middle (affine (mat (a := 1000) (b := 1024) (V (Proc.devRef .tc main_v12))) (wr V) (br V) r ⟨l.val * 4, by omega⟩) (props V r 0) (props V r 2) := by
  unfold middle wr br props mat vec affine
  after_reads_at

theorem mid_v86 (r : Fin 1000) (l : Fin 91) : mat (a := 1000) (b := 91) (after hostOps0_4 V (Proc.devRef .tc main_v86)) r l
    = middle (affine (mat (a := 1000) (b := 1024) (V (Proc.devRef .tc main_v12))) (wr V) (br V) r ⟨l.val * 4 + 1, by omega⟩) (props V r 1) (props V r 3) := by
  unfold middle wr br props mat vec affine
  after_reads_at

theorem size_v90 (r : Fin 1000) (l : Fin 91) : mat (a := 1000) (b := 91) (after hostOps0_4 V (Proc.devRef .tc main_v90)) r l
    = grow (affine (mat (a := 1000) (b := 1024) (V (Proc.devRef .tc main_v12))) (wr V) (br V) r ⟨l.val * 4 + 2, by omega⟩) * ((props V r 2) - (props V r 0)) := by
  unfold grow wr br props mat vec affine
  after_reads_at

theorem size_v94 (r : Fin 1000) (l : Fin 91) : mat (a := 1000) (b := 91) (after hostOps0_4 V (Proc.devRef .tc main_v94)) r l
    = grow (affine (mat (a := 1000) (b := 1024) (V (Proc.devRef .tc main_v12))) (wr V) (br V) r ⟨l.val * 4 + 3, by omega⟩) * ((props V r 3) - (props V r 1)) := by
  unfold grow wr br props mat vec affine
  after_reads_at

theorem low_v97 (r : Fin 1000) (l : Fin 91) : mat (a := 1000) (b := 91) (after hostOps0_4 V (Proc.devRef .tc main_v97)) r l
    = middle (affine (mat (a := 1000) (b := 1024) (V (Proc.devRef .tc main_v12))) (wr V) (br V) r ⟨l.val * 4, by omega⟩) (props V r 0) (props V r 2) - Ideal.ofBits .f32 0x3F000000#32 * (grow (affine (mat (a := 1000) (b := 1024) (V (Proc.devRef .tc main_v12))) (wr V) (br V) r ⟨l.val * 4 + 2, by omega⟩) * ((props V r 2) - (props V r 0))) := by
  unfold middle grow wr br props mat vec affine
  after_reads_at

theorem W5_v80 (r : Fin 1000) (l : Fin 91) : mat (a := 1000) (b := 91) (W5 V (Proc.devRef .tc main_v80)) r l
    = middle (deltas V r ⟨l.val * 4, by omega⟩) (props V r 0) (props V r 2) :=
  (mid_v80 (W4 V) r l).trans (by rw [W4_deltas, W4_props])

theorem W5_v86 (r : Fin 1000) (l : Fin 91) : mat (a := 1000) (b := 91) (W5 V (Proc.devRef .tc main_v86)) r l
    = middle (deltas V r ⟨l.val * 4 + 1, by omega⟩) (props V r 1) (props V r 3) :=
  (mid_v86 (W4 V) r l).trans (by rw [W4_deltas, W4_props])

theorem W5_v90 (r : Fin 1000) (l : Fin 91) : mat (a := 1000) (b := 91) (W5 V (Proc.devRef .tc main_v90)) r l
    = grow (deltas V r ⟨l.val * 4 + 2, by omega⟩) * ((props V r 2) - (props V r 0)) :=
  (size_v90 (W4 V) r l).trans (by rw [W4_deltas, W4_props])

theorem W5_v94 (r : Fin 1000) (l : Fin 91) : mat (a := 1000) (b := 91) (W5 V (Proc.devRef .tc main_v94)) r l
    = grow (deltas V r ⟨l.val * 4 + 3, by omega⟩) * ((props V r 3) - (props V r 1)) :=
  (size_v94 (W4 V) r l).trans (by rw [W4_deltas, W4_props])

theorem W5_v97 (r : Fin 1000) (l : Fin 91) : mat (a := 1000) (b := 91) (W5 V (Proc.devRef .tc main_v97)) r l
    = middle (deltas V r ⟨l.val * 4, by omega⟩) (props V r 0) (props V r 2) - Ideal.ofBits .f32 0x3F000000#32 * (grow (deltas V r ⟨l.val * 4 + 2, by omega⟩) * ((props V r 2) - (props V r 0))) :=
  (low_v97 (W4 V) r l).trans (by rw [W4_deltas, W4_props])

/-- A buffer without axes, as its one number. -/
def scal (x : FVec Ideal ⟨0, ![]⟩ .f32) : EReal := x ix0

theorem clip_v98 (r : Fin 1000) (l : Fin 91) : mat (a := 1000) (b := 91) (after hostOps0_5 V (Proc.devRef .tc main_v98)) r l
    = min (scal (V (Proc.devRef .tc main_cst_12))) (max (scal (V (Proc.devRef .tc main_cst_11))) (mat (a := 1000) (b := 91) (V (Proc.devRef .tc main_v97)) r l)) := by
  unfold mat scal
  after_reads_at
  rfl

theorem low_cst_11 : scal (after hostOps0_4 V (Proc.devRef .tc main_cst_11)) = 0 := by
  unfold scal
  after_reads_at
theorem top_cst_12 : scal (after hostOps0_4 V (Proc.devRef .tc main_cst_12)) = Ideal.ofBits .f32 0x44854000#32 := by
  unfold scal
  after_reads_at

theorem clip_v102 (r : Fin 1000) (l : Fin 91) : mat (a := 1000) (b := 91) (after hostOps0_7 V (Proc.devRef .tc main_v102)) r l
    = min (scal (V (Proc.devRef .tc main_cst_15))) (max (scal (V (Proc.devRef .tc main_cst_14))) (mat (a := 1000) (b := 91) (V (Proc.devRef .tc main_v101)) r l)) := by
  unfold mat scal
  after_reads_at
  rfl

theorem low_cst_14 : scal (after hostOps0_6 V (Proc.devRef .tc main_cst_14)) = 0 := by
  unfold scal
  after_reads_at
theorem top_cst_15 : scal (after hostOps0_6 V (Proc.devRef .tc main_cst_15)) = Ideal.ofBits .f32 0x44480000#32 := by
  unfold scal
  after_reads_at

theorem clip_v106 (r : Fin 1000) (l : Fin 91) : mat (a := 1000) (b := 91) (after hostOps0_9 V (Proc.devRef .tc main_v106)) r l
    = min (scal (V (Proc.devRef .tc main_cst_18))) (max (scal (V (Proc.devRef .tc main_cst_17))) (mat (a := 1000) (b := 91) (V (Proc.devRef .tc main_v105)) r l)) := by
  unfold mat scal
  after_reads_at
  rfl

theorem low_cst_17 : scal (after hostOps0_8 V (Proc.devRef .tc main_cst_17)) = 0 := by
  unfold scal
  after_reads_at
theorem top_cst_18 : scal (after hostOps0_8 V (Proc.devRef .tc main_cst_18)) = Ideal.ofBits .f32 0x44854000#32 := by
  unfold scal
  after_reads_at

theorem clip_v110 (r : Fin 1000) (l : Fin 91) : mat (a := 1000) (b := 91) (after hostOps0_11 V (Proc.devRef .tc main_v110)) r l
    = min (scal (V (Proc.devRef .tc main_cst_21))) (max (scal (V (Proc.devRef .tc main_cst_20))) (mat (a := 1000) (b := 91) (V (Proc.devRef .tc main_v109)) r l)) := by
  unfold mat scal
  after_reads_at
  rfl

theorem low_cst_20 : scal (after hostOps0_10 V (Proc.devRef .tc main_cst_20)) = 0 := by
  unfold scal
  after_reads_at
theorem top_cst_21 : scal (after hostOps0_10 V (Proc.devRef .tc main_cst_21)) = Ideal.ofBits .f32 0x44480000#32 := by
  unfold scal
  after_reads_at

theorem edge_v101 (r : Fin 1000) (l : Fin 91) : mat (a := 1000) (b := 91) (after hostOps0_6 V (Proc.devRef .tc main_v101)) r l
    = mat (a := 1000) (b := 91) (V (Proc.devRef .tc main_v86)) r l - Ideal.ofBits .f32 0x3F000000#32 * mat (a := 1000) (b := 91) (V (Proc.devRef .tc main_v94)) r l := by
  unfold mat
  after_reads_at

theorem edge_v105 (r : Fin 1000) (l : Fin 91) : mat (a := 1000) (b := 91) (after hostOps0_8 V (Proc.devRef .tc main_v105)) r l
    = mat (a := 1000) (b := 91) (V (Proc.devRef .tc main_v80)) r l + Ideal.ofBits .f32 0x3F000000#32 * mat (a := 1000) (b := 91) (V (Proc.devRef .tc main_v90)) r l := by
  unfold mat
  after_reads_at

theorem edge_v109 (r : Fin 1000) (l : Fin 91) : mat (a := 1000) (b := 91) (after hostOps0_10 V (Proc.devRef .tc main_v109)) r l
    = mat (a := 1000) (b := 91) (V (Proc.devRef .tc main_v86)) r l + Ideal.ofBits .f32 0x3F000000#32 * mat (a := 1000) (b := 91) (V (Proc.devRef .tc main_v94)) r l := by
  unfold mat
  after_reads_at

theorem W6_v98 (r : Fin 1000) (l : Fin 91) : mat (a := 1000) (b := 91) (W6 V (Proc.devRef .tc main_v98)) r l = box (deltas V r) (props V r) l 0 := by
  refine (clip_v98 (W5 V) r l).trans ?_
  rw [show scal (W5 V (Proc.devRef .tc main_cst_11)) = 0 from low_cst_11 (W4 V), show scal (W5 V (Proc.devRef .tc main_cst_12)) = Ideal.ofBits .f32 0x44854000#32 from top_cst_12 (W4 V), W5_v97]
  rfl

theorem W7_v86 (r : Fin 1000) (l : Fin 91) : mat (a := 1000) (b := 91) (W6 V (Proc.devRef .tc main_v86)) r l = mat (a := 1000) (b := 91) (W5 V (Proc.devRef .tc main_v86)) r l := by
  rw [W6_of V _ (by decide)]
theorem W7_v94 (r : Fin 1000) (l : Fin 91) : mat (a := 1000) (b := 91) (W6 V (Proc.devRef .tc main_v94)) r l = mat (a := 1000) (b := 91) (W5 V (Proc.devRef .tc main_v94)) r l := by
  rw [W6_of V _ (by decide)]
theorem W8_v102 (r : Fin 1000) (l : Fin 91) : mat (a := 1000) (b := 91) (W8 V (Proc.devRef .tc main_v102)) r l = box (deltas V r) (props V r) l 1 := by
  refine (clip_v102 (W7 V) r l).trans ?_
  rw [show scal (W7 V (Proc.devRef .tc main_cst_14)) = 0 from low_cst_14 (W6 V), show scal (W7 V (Proc.devRef .tc main_cst_15)) = Ideal.ofBits .f32 0x44480000#32 from top_cst_15 (W6 V),
    show mat (a := 1000) (b := 91) (W7 V (Proc.devRef .tc main_v101)) r l = _ from edge_v101 (W6 V) r l, W7_v86, W7_v94, W5_v86, W5_v94]
  rfl

theorem W9_v80 (r : Fin 1000) (l : Fin 91) : mat (a := 1000) (b := 91) (W8 V (Proc.devRef .tc main_v80)) r l = mat (a := 1000) (b := 91) (W5 V (Proc.devRef .tc main_v80)) r l := by
  rw [W8_of V _ (by decide), W7_of V _ (by decide), W6_of V _ (by decide)]
theorem W9_v90 (r : Fin 1000) (l : Fin 91) : mat (a := 1000) (b := 91) (W8 V (Proc.devRef .tc main_v90)) r l = mat (a := 1000) (b := 91) (W5 V (Proc.devRef .tc main_v90)) r l := by
  rw [W8_of V _ (by decide), W7_of V _ (by decide), W6_of V _ (by decide)]
theorem W10_v106 (r : Fin 1000) (l : Fin 91) : mat (a := 1000) (b := 91) (W10 V (Proc.devRef .tc main_v106)) r l = box (deltas V r) (props V r) l 2 := by
  refine (clip_v106 (W9 V) r l).trans ?_
  rw [show scal (W9 V (Proc.devRef .tc main_cst_17)) = 0 from low_cst_17 (W8 V), show scal (W9 V (Proc.devRef .tc main_cst_18)) = Ideal.ofBits .f32 0x44854000#32 from top_cst_18 (W8 V),
    show mat (a := 1000) (b := 91) (W9 V (Proc.devRef .tc main_v105)) r l = _ from edge_v105 (W8 V) r l, W9_v80, W9_v90, W5_v80, W5_v90]
  rfl

theorem W11_v86 (r : Fin 1000) (l : Fin 91) : mat (a := 1000) (b := 91) (W10 V (Proc.devRef .tc main_v86)) r l = mat (a := 1000) (b := 91) (W5 V (Proc.devRef .tc main_v86)) r l := by
  rw [W10_of V _ (by decide), W9_of V _ (by decide), W8_of V _ (by decide), W7_of V _ (by decide), W6_of V _ (by decide)]
theorem W11_v94 (r : Fin 1000) (l : Fin 91) : mat (a := 1000) (b := 91) (W10 V (Proc.devRef .tc main_v94)) r l = mat (a := 1000) (b := 91) (W5 V (Proc.devRef .tc main_v94)) r l := by
  rw [W10_of V _ (by decide), W9_of V _ (by decide), W8_of V _ (by decide), W7_of V _ (by decide), W6_of V _ (by decide)]
theorem W12_v110 (r : Fin 1000) (l : Fin 91) : mat (a := 1000) (b := 91) (W12 V (Proc.devRef .tc main_v110)) r l = box (deltas V r) (props V r) l 3 := by
  refine (clip_v110 (W11 V) r l).trans ?_
  rw [show scal (W11 V (Proc.devRef .tc main_cst_20)) = 0 from low_cst_20 (W10 V), show scal (W11 V (Proc.devRef .tc main_cst_21)) = Ideal.ofBits .f32 0x44480000#32 from top_cst_21 (W10 V),
    show mat (a := 1000) (b := 91) (W11 V (Proc.devRef .tc main_v109)) r l = _ from edge_v109 (W10 V) r l, W11_v86, W11_v94, W5_v86, W5_v94]
  rfl

/-- Candidate `i`: its proposal and its class, class 0 left out. -/
def row (i : Fin 90000) : Fin 1000 := ⟨i.val / 90, by omega⟩
def cls (i : Fin 90000) : Fin 91 := ⟨1 + i.val % 90, by omega⟩

theorem flat_v118 (i : Fin 90000) : vec (a := 90000) (after hostOps0_12 V (Proc.devRef .tc main_v118)) i
    = mat (a := 1000) (b := 91) (V (Proc.devRef .tc main_v34)) (row i) (cls i) := by
  unfold vec mat row cls
  after_reads_at
theorem flat_v125 (i : Fin 90000) : (fun x : IVec ⟨1, ![90000]⟩ 32 => x (ix1 i)) (after hostOps0_12 V (Proc.devRef .tc main_v125))
    = BitVec.ofNat 32 (cls i).val := by
  unfold cls
  beta_reduce
  after_reads_at
  unfold IntOp.addi
  rw [BitVec.ofNat_add]
theorem flat_v127 (i : Fin 90000) : (fun x : IVec ⟨1, ![90000]⟩ 1 => x (ix1 i)) (after hostOps0_12 V (Proc.devRef .tc main_v127))
    = BitVec.ofBool (decide (Ideal.ofBits .f32 0x3DCCCCCD#32 < mat (a := 1000) (b := 91) (V (Proc.devRef .tc main_v34)) (row i) (cls i))) := by
  unfold mat row cls
  beta_reduce
  after_reads_at
theorem neg_cst_23 : scal (after hostOps0_12 V (Proc.devRef .tc main_cst_23)) = Ideal.ofBits .f32 0xBF800000#32 := by
  unfold scal
  after_reads_at
theorem where_v128 (i : Fin 90000) : vec (a := 90000) (after hostOps0_13 V (Proc.devRef .tc main_v128)) i
    = Scalar.select ((fun x : IVec ⟨1, ![90000]⟩ 1 => x (ix1 i)) (V (Proc.devRef .tc main_v127))) (vec (a := 90000) (V (Proc.devRef .tc main_v118)) i)
        (scal (V (Proc.devRef .tc main_cst_23))) := by
  unfold vec scal
  after_reads_at
  rfl

/-- The candidates' probabilities, ranked scores, labels and boxes, before the first top-k. -/
theorem W12_v34 (r : Fin 1000) (l : Fin 91) : mat (a := 1000) (b := 91) (W12 V (Proc.devRef .tc main_v34)) r l = prob (logits V r) l := by
  rw [W12_of V _ (by decide), W11_of V _ (by decide), W10_of V _ (by decide), W9_of V _ (by decide), W8_of V _ (by decide), W7_of V _ (by decide), W6_of V _ (by decide), W5_v34]
theorem W14_v118 (i : Fin 90000) : vec (a := 90000) (W14 V (Proc.devRef .tc main_v118)) i = prob (logits V (row i)) (cls i) := by
  rw [W14_of V _ (by decide)]
  exact (flat_v118 (W12 V) i).trans (W12_v34 V _ _)
theorem W14_v125 (i : Fin 90000) : (fun x : IVec ⟨1, ![90000]⟩ 32 => x (ix1 i)) (W14 V (Proc.devRef .tc main_v125)) = BitVec.ofNat 32 (cls i).val := by
  rw [W14_of V _ (by decide)]
  exact flat_v125 (W12 V) i
theorem W14_v128 (i : Fin 90000) : vec (a := 90000) (W14 V (Proc.devRef .tc main_v128)) i = score (prob (logits V (row i)) (cls i)) := by
  refine (where_v128 (W13 V) i).trans ?_
  rw [show (fun x : IVec ⟨1, ![90000]⟩ 1 => x (ix1 i)) (W13 V (Proc.devRef .tc main_v127)) = _ from flat_v127 (W12 V) i,
    show vec (a := 90000) (W13 V (Proc.devRef .tc main_v118)) i = _ from flat_v118 (W12 V) i,
    show scal (W13 V (Proc.devRef .tc main_cst_23)) = _ from neg_cst_23 (W12 V), W12_v34]
  unfold score Scalar.select
  by_cases h : Ideal.ofBits .f32 0x3DCCCCCD#32 < prob (logits V (row i)) (cls i) <;> simp [h]

theorem flat_v119_0 (i : Fin 90000) : mat (a := 90000) (b := 4) (after hostOps0_12 V (Proc.devRef .tc main_v119)) i 0
    = mat (a := 1000) (b := 91) (V (Proc.devRef .tc main_v98)) (row i) (cls i) := by
  unfold mat row cls
  after_reads_at
  unfold StableHlo.upto
  after_reads_at

theorem flat_v119_1 (i : Fin 90000) : mat (a := 90000) (b := 4) (after hostOps0_12 V (Proc.devRef .tc main_v119)) i 1
    = mat (a := 1000) (b := 91) (V (Proc.devRef .tc main_v102)) (row i) (cls i) := by
  unfold mat row cls
  after_reads_at
  unfold StableHlo.upto
  after_reads_at

theorem flat_v119_2 (i : Fin 90000) : mat (a := 90000) (b := 4) (after hostOps0_12 V (Proc.devRef .tc main_v119)) i 2
    = mat (a := 1000) (b := 91) (V (Proc.devRef .tc main_v106)) (row i) (cls i) := by
  unfold mat row cls
  after_reads_at
  unfold StableHlo.upto
  after_reads_at

theorem flat_v119_3 (i : Fin 90000) : mat (a := 90000) (b := 4) (after hostOps0_12 V (Proc.devRef .tc main_v119)) i 3
    = mat (a := 1000) (b := 91) (V (Proc.devRef .tc main_v110)) (row i) (cls i) := by
  unfold mat row cls
  after_reads_at
  unfold StableHlo.upto
  after_reads_at

theorem W14_v119 (i : Fin 90000) : ∀ q : Fin 4, mat (a := 90000) (b := 4) (W14 V (Proc.devRef .tc main_v119)) i q = box (deltas V (row i)) (props V (row i)) (cls i) q := by
  rw [W14_of V _ (by decide)]
  intro q
  match q with
  | 0 => exact (flat_v119_0 (W12 V) i).trans (by rw [W12_of V _ (by decide), W11_of V _ (by decide), W10_of V _ (by decide), W9_of V _ (by decide), W8_of V _ (by decide), W7_of V _ (by decide)]; exact W6_v98 V _ _)
  | 1 => exact (flat_v119_1 (W12 V) i).trans (by rw [W12_of V _ (by decide), W11_of V _ (by decide), W10_of V _ (by decide), W9_of V _ (by decide)]; exact W8_v102 V _ _)
  | 2 => exact (flat_v119_2 (W12 V) i).trans (by rw [W12_of V _ (by decide), W11_of V _ (by decide)]; exact W10_v106 V _ _)
  | 3 => exact (flat_v119_3 (W12 V) i).trans (by exact W12_v110 V _ _)

end Cert.Proof.Reference
-- ==== Proof.Value.KerChosen.lean ====
/-
  The kernel's candidates, named by their place among the ninety thousand real pairs of a proposal and a class: the padded score table
  holds the real scores, in their order, and −2 elsewhere, so that its thousand greatest entries are theirs.
-/
module

public import proofs.«01_k».proof.Proof.Value.KerHead
public import proofs.«01_k».proof.Proof.Value.KerTail
public import proofs.«01_k».proof.Proof.Value.RefHead

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen
open Cert.Proof.Value
open Cert.Proof.Reference (row cls)

/-- The padded table's place of the pair `i`. -/
def site (i : Fin 90000) : Fin 128000 := ⟨i.val / 90 * 128 + (1 + i.val % 90), by omega⟩
theorem site_mono : StrictMono site := fun i j h => by
  have h' : i.val < j.val := h
  show i.val / 90 * 128 + (1 + i.val % 90) < j.val / 90 * 128 + (1 + j.val % 90)
  omega
theorem site_label (i : Fin 90000) : (site i).val % 128 = (cls i).val := by
  show (i.val / 90 * 128 + (1 + i.val % 90)) % 128 = 1 + i.val % 90
  omega
theorem spread_site (x : FVec Ideal ⟨2, ![1000, 128]⟩ .f32) (i : Fin 90000) : spread x (site i) = mat x (row i) (lane (cls i)) := by
  unfold spread
  congr 1
  · exact Fin.ext (show (i.val / 90 * 128 + (1 + i.val % 90)) / 128 = i.val / 90 by omega)
  · exact Fin.ext (site_label i)
theorem off_site (p : Fin 128000) (h : ∀ i, site i ≠ p) : ¬(1 ≤ p.val % 128 ∧ p.val % 128 < 91) := fun hp => by
  refine h ⟨p.val / 128 * 90 + (p.val % 128 - 1), by omega⟩ (Fin.ext ?_)
  show (p.val / 128 * 90 + (p.val % 128 - 1)) / 90 * 128 + (1 + (p.val / 128 * 90 + (p.val % 128 - 1)) % 90) = p.val
  omega

theorem low_score (p : EReal) : Ideal.ofBits .f32 0xC0000000#32 < score p := by
  have h2 : Ideal.ofBits .f32 0xC0000000#32 = ((-2 : ℝ) : EReal) := by
    simp [Ideal.ofBits, Ideal.ieee]
    rw [← EReal.coe_mul]
    norm_num
  have h1 : Ideal.ofBits .f32 0xBF800000#32 = ((-1 : ℝ) : EReal) := by
    simp [Ideal.ofBits, Ideal.ieee]
    rw [← EReal.coe_mul]
    norm_num
  have h0 : (0 : EReal) ≤ Ideal.ofBits .f32 0x3DCCCCCD#32 := by
    simp [Ideal.ofBits, Ideal.ieee]
    rw [← EReal.coe_mul]
    exact_mod_cast (by norm_num)
  unfold score
  split
  · rename_i h
    refine lt_of_le_of_lt ?_ (lt_of_le_of_lt h0 h)
    rw [h2]
    exact_mod_cast (by norm_num : (-2 : ℝ) ≤ 0)
  · rw [h1, h2]
    exact_mod_cast (by norm_num : (-2 : ℝ) < -1)

/-- A positive score is the probability itself. -/
theorem score_pos (p : EReal) (h : 0 < score p) : score p = p := by
  unfold score at h ⊢
  split
  · rfl
  · rename_i hn
    rw [if_neg hn] at h
    have h1 : Ideal.ofBits .f32 0xBF800000#32 = ((-1 : ℝ) : EReal) := by
      simp [Ideal.ofBits, Ideal.ieee]
      rw [← EReal.coe_mul]
      norm_num
    rw [h1] at h
    exact absurd h (not_lt.mpr (by exact_mod_cast (by norm_num : (-1 : ℝ) ≤ 0)))

variable (m : (ℓ : Loc nD τ sig) → Buf (Elt Ideal) ℓ) (c : Dev nD)

/-- The real pairs' scores, and the pair at place `n` of their ranking. -/
def scores (i : Fin 90000) : EReal := score (prob (logits c m (row i)) (cls i))
def pair (n : Fin 1000) : Fin 90000 := place (by decide : 1000 ≤ 90000) (scores m c) n

theorem score_site (i : Fin 90000) : spread (V10 m (outs m) c (Proc.devRef .tc main_v14_0)) (site i) = scores m c i := by
  rw [V10_out0, spread_site]
  exact score_real c m (row i) (cls i) (Nat.le_add_right 1 _)
theorem chosen_site (n : Fin 1000) : chosen (V10 m (outs m) c) n = site (pair m c n) := by
  unfold chosen pair place
  refine rank_embed (k := 1000) (spread (V10 m (outs m) c (Proc.devRef .tc main_v14_0))) (scores m c) site site_mono (score_site m c)
    (fun p hp i => ?_) _ _ n
  rw [V10_out0]
  exact lt_of_eq_of_lt (score_pad c m ⟨p.val / 128, by omega⟩ ⟨p.val % 128, by omega⟩ (off_site p hp)) (low_score _)
theorem kValues_eq (n : Fin 1000) : kValues m c n = scores m c (pair m c n) := by
  unfold kValues
  rw [V13_of m (outs m) c main_values (by decide), V12_of m (outs m) c main_values (by decide)]
  refine (cand_values (V10 m (outs m) c) n).trans ?_
  rw [chosen_site, score_site]
theorem V11_indices (n : Fin 1000) : words (a := 1000) (V11 m (outs m) c (Proc.devRef .tc main_indices)) n = BitVec.ofNat 32 (site (pair m c n)).val := by
  rw [← chosen_site]
  exact cand_indices (V10 m (outs m) c) n
theorem V12_label (n : Fin 1000) : words (a := 1000) (V12 m (outs m) c (Proc.devRef .tc main_v16)) n = BitVec.ofNat 32 (cls (pair m c n)).val := by
  refine (cand_v16 (V11 m (outs m) c) n _ (by omega) (V11_indices m c n) (cand_modulus _)).trans ?_
  rw [site_label]
theorem kBoxes_eq (n : Fin 1000) (q : Fin 4) : kBoxes m c n q
    = box (deltas c m (row (pair m c n))) (props c m (row (pair m c n))) (cls (pair m c n)) q := by
  refine (cat_v53 (V12 m (outs m) c) n q (site (pair m c n)) ?_).trans ?_
  · rw [V12_of m (outs m) c main_indices (by decide)]
    exact V11_indices m c n
  · rw [V12_of m (outs m) c main_v14_1 (by decide), V11_of m (outs m) c main_v14_1 (by decide),
      V12_of m (outs m) c main_v14_2 (by decide), V11_of m (outs m) c main_v14_2 (by decide),
      V12_of m (outs m) c main_v14_3 (by decide), V11_of m (outs m) c main_v14_3 (by decide),
      V12_of m (outs m) c main_v14_4 (by decide), V11_of m (outs m) c main_v14_4 (by decide),
      V10_out1, V10_out2, V10_out3, V10_out4, spread_site, spread_site, spread_site, spread_site,
      coord_0, coord_1, coord_2, coord_3]
    match q with
    | 0 => rfl
    | 1 => rfl
    | 2 => rfl
    | 3 => rfl
theorem kShifted_eq (n : Fin 1000) (q : Fin 4) : kShifted m c n q = kBoxes m c n q
    + FloatOps.sitofp (F := Ideal) .f32 (BitVec.ofNat 32 (cls (pair m c n)).val) * Ideal.ofBits .f32 0x44FA0000#32 := by
  refine (cand_v74 (V12 m (outs m) c) n q).trans ?_
  rw [V12_label]
  rfl

end Cert.Proof.KernelIdeal
-- ==== Proof.Value.RefCand.lean ====
/-
  The reference's candidates: the thousand greatest scores, and at each its box, probability and label; the boxes shifted by label,
  their intersections over unions, and what the suppression loop starts from.
-/
module

public import proofs.«01_k».proof.Proof.Value.RefHead
public import proofs.«01_k».proof.Proof.Value.Take

@[expose] public section

set_option maxRecDepth 16384

noncomputable section

namespace Cert.Proof.Reference

open Idealize.ShloMosaic Idealize.ShloMosaic.TcCoe Idealize.ShloMosaic.StableHlo
open Cert.ReferenceIdeal Cert.ReferenceIdeal.Gen Cert.ReferenceIdeal.Value
open Cert.Proof.Value

variable (V : Valuation τ sig (Elt Ideal))

/-- Vectors of words, read at a place. -/
def words {a : ℕ} {w : ℕ} (x : IVec ⟨1, ![a]⟩ w) : Fin a → BitVec w := fun r => x (ix1 r)

/-- The candidate at place `n` of the first top-k. -/
def chosen (n : Fin 1000) : Fin 90000 := place (by decide : 1000 ≤ 90000) (vec (a := 90000) (V (Proc.devRef .tc main_v128))) n

theorem top_values (n : Fin 1000) : vec (a := 1000) (after hostOps0_14 V (Proc.devRef .tc main_values)) n
    = vec (a := 90000) (V (Proc.devRef .tc main_v128)) (chosen V n) := by
  unfold vec chosen place
  after_reads_at
  exact topK_fst (N := 90000) (k := 1000) _ _ (by decide) n
theorem top_v135 (n : Fin 1000) (q : Fin 4) : mat (a := 1000) (b := 4) (after hostOps0_14 V (Proc.devRef .tc main_v135)) n q
    = mat (a := 90000) (b := 4) (V (Proc.devRef .tc main_v119)) (chosen V n) q := by
  unfold mat chosen place
  after_reads_at
  refine Routing.gather_row _ rfl rfl rfl rfl rfl _ _ n q _ ?_ (by decide)
  exact wrap_1000 _ _ n _ (by omega) (topK_snd (N := 90000) (k := 1000) _ _ (by decide) n) _ _ _
theorem top_v142 (n : Fin 1000) : vec (a := 1000) (after hostOps0_14 V (Proc.devRef .tc main_v142)) n
    = vec (a := 90000) (V (Proc.devRef .tc main_v118)) (chosen V n) := by
  unfold chosen place
  conv_lhs => unfold vec
  conv_rhs => unfold vec
  after_reads_at
  refine Routing.gather_take1 _ rfl rfl rfl rfl _ _ n _ ?_ (by decide)
  exact wrap_1000 _ _ n _ (by omega) (topK_snd (N := 90000) (k := 1000) _ _ (by decide) n) _ _ _
theorem top_v149 (n : Fin 1000) : words (a := 1000) (after hostOps0_14 V (Proc.devRef .tc main_v149)) n
    = words (a := 90000) (V (Proc.devRef .tc main_v125)) (chosen V n) := by
  unfold words chosen place
  after_reads_at
  refine Routing.gather_take1 _ rfl rfl rfl rfl _ _ n _ ?_ (by decide)
  exact wrap_1000 _ _ n _ (by omega) (topK_snd (N := 90000) (k := 1000) _ _ (by decide) n) _ _ _
theorem top_v151 (n : Fin 1000) : words (a := 1000) (after hostOps0_14 V (Proc.devRef .tc main_v151)) n
    = BitVec.ofBool (decide (0 < vec (a := 1000) (after hostOps0_14 V (Proc.devRef .tc main_values)) n)) := by
  unfold words vec
  after_reads_at
theorem top_v157 (n : Fin 1000) (q : Fin 4) : mat (a := 1000) (b := 4) (after hostOps0_14 V (Proc.devRef .tc main_v157)) n q
    = mat (a := 1000) (b := 4) (after hostOps0_14 V (Proc.devRef .tc main_v135)) n q
      + FloatOps.sitofp (F := Ideal) .f32 (words (a := 1000) (after hostOps0_14 V (Proc.devRef .tc main_v149)) n) * Ideal.ofBits .f32 0x44FA0000#32 := by
  unfold mat words
  after_reads_at
theorem top_v210 (r l : Fin 1000) : mat (a := 1000) (b := 1000) (after hostOps0_14 V (Proc.devRef .tc main_v210)) r l
    = iou (mat (a := 1000) (b := 4) (after hostOps0_14 V (Proc.devRef .tc main_v157)) r) (mat (a := 1000) (b := 4) (after hostOps0_14 V (Proc.devRef .tc main_v157)) l) := by
  unfold mat iou overlap area
  after_reads_at
theorem loop_v213_0 : after hostOps0_14 V (Proc.devRef .tc main_v213_0) = after hostOps0_14 V (Proc.devRef .tc main_v210) := by
  after_reads_simp
  rfl
theorem loop_v213_1 (n : Fin 1000) : words (a := 1000) (after hostOps0_14 V (Proc.devRef .tc main_v213_1)) n = BitVec.ofNat 32 n.val := by
  unfold words
  after_reads_at
  rfl
theorem loop_v213_3 : (fun x : IVec ⟨0, ![]⟩ 32 => x ix0) (after hostOps0_14 V (Proc.devRef .tc main_v213_3)) = 0#32 := by
  beta_reduce
  after_reads_at
  rfl
theorem loop_v213_4 (n : Fin 1000) : words (a := 1000) (after hostOps0_14 V (Proc.devRef .tc main_v213_4)) n = 1#1 := by
  unfold words
  after_reads_at
  rfl

end Cert.Proof.Reference
-- ==== Proof.Value.RefLoop.lean ====
/-
  The reference's suppression loop: after `k` trips its keep flags are `kept` of the boxes' suppressions.
-/
module

public import proofs.«01_k».proof.Proof.Value.RefCand

@[expose] public section

set_option maxRecDepth 16384

noncomputable section

namespace Cert.Proof.Reference

open Idealize.ShloMosaic Idealize.ShloMosaic.TcCoe Idealize.ShloMosaic.StableHlo
open Cert.ReferenceIdeal Cert.ReferenceIdeal.Gen Cert.ReferenceIdeal.Value
open Cert.Proof.Value

variable (V : Valuation τ sig (Elt Ideal))

theorem toInt_small (k : ℕ) (hk : k < 1000) : (BitVec.ofNat 32 k).toInt = k := by
  rw [BitVec.toInt_eq_toNat_of_lt] <;> simp <;> omega
theorem wrap_word (k : ℕ) (hk : k < 1000) (w : BitVec 32) :
    Scalar.select (IntOp.cmpi .slt (BitVec.ofNat 32 k) 0#32) w (BitVec.ofNat 32 k) = BitVec.ofNat 32 k := by
  rw [slt_zero k (by omega)]; rfl

theorem clamp_row (h) (start : Fin 2 → ℤ) (k : ℕ) (hk : k < 1000) (hs : start 0 = k) :
    Host.clampedStart ⟨2, ![1000, 1000]⟩ ⟨2, ![1, 1000]⟩ h start 0 = k :=
  Host.clampedStart_of_le h start 0 k hs (Nat.succ_le_of_lt hk)
theorem clamp_col (h) (start : Fin 2 → ℤ) (hs : start 1 = (0 : ℕ)) :
    Host.clampedStart ⟨2, ![1000, 1000]⟩ ⟨2, ![1, 1000]⟩ h start 1 = 0 :=
  Host.clampedStart_of_le h start 1 0 hs (Nat.le_of_eq (Nat.zero_add _))
theorem clamp_one (h) (start : Fin 1 → ℤ) (k : ℕ) (hk : k < 1000) (hs : start 0 = k) :
    Host.clampedStart ⟨1, ![1000]⟩ ⟨1, ![1]⟩ h start 0 = k :=
  Host.clampedStart_of_le h start 0 k hs (Nat.succ_le_of_lt hk)

/-- One trip's flags, as the words they are computed from. -/
theorem step_flags (j : Fin 1000) (k : ℕ) (hk : k < 1000) (h3 : V (Proc.devRef .tc main_v213_3) = fun _ => BitVec.ofNat 32 k) :
    words (a := 1000) (step_main_v213_4 V) j
      = IntOp.andi (words (a := 1000) (V (Proc.devRef .tc main_v213_4)) j)
          (~~~IntOp.andi (IntOp.andi (BitVec.ofBool (decide (Ideal.ofBits .f32 0x3F19999A#32 < mat (a := 1000) (b := 1000) (V (Proc.devRef .tc main_v213_0)) ⟨k, hk⟩ j)))
              (words (a := 1000) (V (Proc.devRef .tc main_v213_4)) ⟨k, hk⟩))
            (IntOp.cmpi .sgt (words (a := 1000) (V (Proc.devRef .tc main_v213_1)) j) (BitVec.ofNat 32 k))) := by
  unfold words mat step_main_v213_4 res_main_while0b_v242
  rw [h3]
  simp -implicitDefEqProofs only [StableHlo.TRef.toBuf, StableHlo.TRef.ofBuf, cast_cast, cast_eq, id]
  clean_types
  pointwise
  have e0 : ∀ (a b : Fin 1000) (a' b' : Fin 1000), a = a' → b = b' → V (Proc.devRef .tc main_v213_0) (ix2 a b) = V (Proc.devRef .tc main_v213_0) (ix2 a' b') :=
    fun a b a' b' ha hb => by rw [ha, hb]
  refine congrArg₂ IntOp.andi rfl (congrArg (~~~ ·) (congrArg₂ IntOp.andi (congrArg₂ IntOp.andi (congrArg (fun x => BitVec.ofBool (decide (Ideal.ofBits .f32 0x3F19999A#32 < x))) (e0 _ _ _ _ ?_ ?_)) (congrArg (fun i : Fin 1000 => V (Proc.devRef .tc main_v213_4) (ix1 i)) ?_)) rfl))
  · apply Fin.ext
    dsimp only
    apply clamp_row _ _ k hk
    show BitVec.toInt (Scalar.select (IntOp.cmpi .slt (BitVec.ofNat 32 k) 0#32) (IntOp.addi (BitVec.ofNat 32 k) 1000#32) (BitVec.ofNat 32 k)) = k
    rw [wrap_word k hk]
    exact toInt_small k hk
  · apply Fin.ext
    dsimp only
    rw [clamp_col, Nat.zero_add]
    show BitVec.toInt (Scalar.select (IntOp.cmpi .slt (BitVec.ofNat 32 0) 0#32) (IntOp.addi (BitVec.ofNat 32 0) 1000#32) (BitVec.ofNat 32 0)) = (0 : ℕ)
    rw [wrap_word 0 (by decide)]
    exact toInt_small 0 (by decide)
  · apply Fin.ext
    dsimp only
    apply clamp_one _ _ k hk
    rw [wrap_word k hk]
    exact toInt_small k hk

theorem flags_word (a b c d : Bool) : IntOp.andi (BitVec.ofBool a) (~~~IntOp.andi (IntOp.andi (BitVec.ofBool b) (BitVec.ofBool c)) (BitVec.ofBool d))
    = BitVec.ofBool (a && !((b && d) && c)) := by
  revert a b c d; decide

/-- The boxes the suppression compares: the candidates' boxes, shifted by label. -/
def shifted := mat (a := 1000) (b := 4) (W15 V (Proc.devRef .tc main_v157))

/-- The loop's carried values before trip `k`. -/
theorem loop_at : ∀ k : ℕ, k ≤ 1000 →
    (STEP^[k] (W15 V)) (Proc.devRef .tc main_v213_0) = W15 V (Proc.devRef .tc main_v213_0)
      ∧ (STEP^[k] (W15 V)) (Proc.devRef .tc main_v213_1) = W15 V (Proc.devRef .tc main_v213_1)
      ∧ (STEP^[k] (W15 V)) (Proc.devRef .tc main_v213_3) = (fun _ => BitVec.ofNat 32 k)
      ∧ ∀ j, words (a := 1000) ((STEP^[k] (W15 V)) (Proc.devRef .tc main_v213_4)) j = BitVec.ofBool (kept (suppresses (shifted V)) k j)
  | 0, _ => by
    refine ⟨rfl, rfl, ?_, fun j => ?_⟩
    · funext j
      have hj : j = ix0 := funext fun a => a.elim0
      rw [hj]
      exact loop_v213_3 (W14 V)
    · exact (loop_v213_4 (W14 V) j).trans rfl
  | k + 1, hk1 => by
    have hk : k < 1000 := hk1
    obtain ⟨i0, i1, i3, i4⟩ := loop_at k (Nat.le_of_lt hk)
    rw [Function.iterate_succ_apply']
    refine ⟨(STEP_main_v213_0 _).trans i0, (STEP_main_v213_1 _).trans i1, ?_, fun j => ?_⟩
    · rw [STEP_main_v213_3]
      unfold step_main_v213_3
      rw [i3]
      funext _
      show BitVec.ofNat 32 k + 1#32 = BitVec.ofNat 32 (k + 1)
      rw [BitVec.ofNat_add]
    · rw [STEP_main_v213_4, step_flags _ j k hk i3, i4, i4, i0, i1,
        show W15 V (Proc.devRef .tc main_v213_0) = W15 V (Proc.devRef .tc main_v210) from loop_v213_0 (W14 V),
        show mat (a := 1000) (b := 1000) (W15 V (Proc.devRef .tc main_v210)) ⟨k, hk⟩ j = _ from top_v210 (W14 V) ⟨k, hk⟩ j,
        show words (a := 1000) (W15 V (Proc.devRef .tc main_v213_1)) j = _ from loop_v213_1 (W14 V) j,
        WordCmp.cmpi_sgt_ofNat (by have := j.isLt; omega) (by omega), flags_word]
      congr 1
      rw [kept, dif_pos hk]
      rfl

end Cert.Proof.Reference
-- ==== Proof.Value.RefTail.lean ====
/-
  The reference's result: the hundred best of the candidates the suppression kept, each with its box and its probability.
-/
module

public import proofs.«01_k».proof.Proof.Value.RefLoop

@[expose] public section

set_option maxRecDepth 16384

noncomputable section

namespace Cert.Proof.Reference

open Idealize.ShloMosaic Idealize.ShloMosaic.TcCoe Idealize.ShloMosaic.StableHlo
open Cert.ReferenceIdeal Cert.ReferenceIdeal.Gen Cert.ReferenceIdeal.Value
open Cert.Proof.Value

section
variable (V : Valuation τ sig (Elt Ideal))

theorem tail_v214 (n : Fin 1000) : words (a := 1000) (after hostOps0_15 V (Proc.devRef .tc main_v214)) n
    = IntOp.andi (words (a := 1000) (V (Proc.devRef .tc main_v213_4)) n) (words (a := 1000) (V (Proc.devRef .tc main_v151)) n) := by
  unfold words
  after_reads_at
theorem tail_cst : scal (after hostOps0_15 V (Proc.devRef .tc main_cst_37)) = Ideal.ofBits .f32 0xBF800000#32 := by
  unfold scal
  after_reads_at
theorem tail_v215 (n : Fin 1000) : vec (a := 1000) (after hostOps0_16 V (Proc.devRef .tc main_v215)) n
    = Scalar.select (words (a := 1000) (V (Proc.devRef .tc main_v214)) n) (vec (a := 1000) (V (Proc.devRef .tc main_values)) n) (scal (V (Proc.devRef .tc main_cst_37))) := by
  unfold vec words scal
  after_reads_at
  rfl
theorem tail_cat : after hostOps0_17 V (Proc.devRef .tc main_v240)
    = concatenate S100x5 1 [⟨S100x4, after hostOps0_17 V (Proc.devRef .tc main_v222)⟩, ⟨S100x1, after hostOps0_17 V (Proc.devRef .tc main_v239)⟩] concatenates_S100x4_S100x1_S100x5_d1 := by
  have key (r : Ref sig .tc) (hr : r ∉ [main_v240]) : upto hostOps0_17 V 32 (Proc.devRef .tc r) = after hostOps0_17 V (Proc.devRef .tc r) := by
    have h : after hostOps0_17 V = after (hostOps0_17.drop 32) (upto hostOps0_17 V 32) := by
      rw [upto, ← StableHlo.after_append, List.take_append_drop]
    rw [h]
    exact (after_of_writes_sub (W := [main_v240]) _ _ (StableHlo.forall_writes_sub_of_map rfl) hr).symm
  after_reads_simp
  rw [key main_v222 (by decide), key main_v239 (by decide)]
theorem tail_v222 (n : Fin 100) (q : Fin 4) : mat (a := 100) (b := 4) (after hostOps0_17 V (Proc.devRef .tc main_v222)) n q
    = mat (a := 1000) (b := 4) (V (Proc.devRef .tc main_v135)) (place (by decide : 100 ≤ 1000) (vec (a := 1000) (V (Proc.devRef .tc main_v215))) n) q := by
  unfold mat place vec
  after_reads_at
  refine Routing.gather_row _ rfl rfl rfl rfl rfl _ _ n q _ ?_ (by decide)
  exact wrap_100 _ _ n _ (by omega) (topK_snd (N := 1000) (k := 100) _ _ (by decide) n) _ _ _
theorem tail_v239 (n : Fin 100) : mat (a := 100) (b := 1) (after hostOps0_17 V (Proc.devRef .tc main_v239)) n 0
    = vec (a := 1000) (V (Proc.devRef .tc main_v142)) (place (by decide : 100 ≤ 1000) (vec (a := 1000) (V (Proc.devRef .tc main_v215))) n)
      * FloatOps.uitofp (F := Ideal) .f32 (words (a := 1000) (V (Proc.devRef .tc main_v214)) (place (by decide : 100 ≤ 1000) (vec (a := 1000) (V (Proc.devRef .tc main_v215))) n)) := by
  unfold mat words place
  conv_rhs => unfold vec
  after_reads_at
  refine congrArg₂ (· * ·) ?_ (congrArg (FloatOps.uitofp (F := Ideal) .f32) ?_)
  · refine Routing.gather_take1 _ rfl rfl rfl rfl _ _ n _ ?_ (by decide)
    exact wrap_100 _ _ n _ (by omega) (topK_snd (N := 1000) (k := 100) _ _ (by decide) n) _ _ _
  · refine Routing.gather_take1 _ rfl rfl rfl rfl _ _ n _ ?_ (by decide)
    exact wrap_100 _ _ n _ (by omega) (topK_snd (N := 1000) (k := 100) _ _ (by decide) n) _ _ _
theorem cat_box (x : FVec Ideal S100x4 .f32) (y : FVec Ideal S100x1 .f32) (n : Fin 100) (q : Fin 4) :
    mat (a := 100) (b := 5) (concatenate S100x5 1 [⟨S100x4, x⟩, ⟨S100x1, y⟩] concatenates_S100x4_S100x1_S100x5_d1) n q.castSucc = mat x n q := by
  unfold mat
  pointwise
  exact dif_pos q.isLt
theorem cat_score (x : FVec Ideal S100x4 .f32) (y : FVec Ideal S100x1 .f32) (n : Fin 100) (q : Fin 5) (hq : q.val = 4) :
    mat (a := 100) (b := 5) (concatenate S100x5 1 [⟨S100x4, x⟩, ⟨S100x1, y⟩] concatenates_S100x4_S100x1_S100x5_d1) n q = mat y n 0 := by
  unfold mat
  pointwise
  rw [dif_neg (by omega)]
  congr 2
  exact Fin.ext (by simp [hq])

/-- The candidates' scores and boxes after the first ranking, and the flag each ends with. -/
def values : Fin 1000 → EReal := vec (a := 1000) (W15 V (Proc.devRef .tc main_values))
def flags : Fin 1000 → Bool := flag (values V) (shifted V)

end

variable (m : (ℓ : Loc nD τ sig) → Buf (Elt Ideal) ℓ) (c : Dev nD)

theorem entry_W15 : entryContents preI m c = W15 (fun b => m (c, b)) := rfl

theorem atK_keep (r : Ref sig .tc) (hr : r ∉ while0Ops0_W) (hc : r ∉ condOps_W) : ∀ k,
    atK m k c (Proc.devRef .tc r) = entryContents preI m c (Proc.devRef .tc r)
  | 0 => rfl
  | k + 1 => (after_of_writes_sub while0Ops0 _ while0Ops0_writes hr).trans
      ((after_of_writes_sub condOps _ condOps_writes hc).trans (atK_keep r hr hc k))

/-- What the stretches after the loop start from. -/
def after_loop : Valuation τ sig (Elt Ideal) := after condOps (atK m 1000 c)
theorem after_loop_keep (r : Ref sig .tc) (hr : r ∉ while0Ops0_W) (hc : r ∉ condOps_W) :
    after_loop m c (Proc.devRef .tc r) = W15 (fun b => m (c, b)) (Proc.devRef .tc r) :=
  (after_of_writes_sub condOps _ condOps_writes hc).trans (atK_keep m c r hr hc 1000)
theorem after_loop_flags (j : Fin 1000) : words (a := 1000) (after_loop m c (Proc.devRef .tc main_v213_4)) j
    = BitVec.ofBool (kept (suppresses (shifted (fun b => m (c, b)))) 1000 j) := by
  rw [show after_loop m c (Proc.devRef .tc main_v213_4) = _ from (cond_keeps _ main_v213_4 (by decide)).trans (atK_agree m c 1000 main_v213_4 (by decide)),
    entry_W15]
  exact (loop_at (fun b => m (c, b)) 1000 le_rfl).2.2.2 j

def X1 : Valuation τ sig (Elt Ideal) := after hostOps0_15 (after_loop m c)
def X2 : Valuation τ sig (Elt Ideal) := after hostOps0_16 (X1 m c)
theorem X1_of (r : Ref sig .tc) (h : r ∉ hostOps0_15_W) : X1 m c (Proc.devRef .tc r) = after_loop m c (Proc.devRef .tc r) :=
  after_of_writes_sub hostOps0_15 _ hostOps0_15_writes h
theorem X2_of (r : Ref sig .tc) (h : r ∉ hostOps0_16_W) : X2 m c (Proc.devRef .tc r) = X1 m c (Proc.devRef .tc r) :=
  after_of_writes_sub hostOps0_16 _ hostOps0_16_writes h
theorem result_eq : result m c = after hostOps0_17 (X2 m c) (Proc.devRef .tc main_v240) := rfl

theorem X1_v214 (j : Fin 1000) : words (a := 1000) (X1 m c (Proc.devRef .tc main_v214)) j = BitVec.ofBool (flags (fun b => m (c, b)) j) := by
  refine (tail_v214 _ j).trans ?_
  rw [after_loop_flags, after_loop_keep m c main_v151 (by decide) (by decide)]
  refine (congrArg (IntOp.andi _) (top_v151 (W14 fun b => m (c, b)) j)).trans ?_
  have h : ∀ a b : Bool, IntOp.andi (BitVec.ofBool a) (BitVec.ofBool b) = BitVec.ofBool (a && b) := by decide
  exact h _ _
theorem X2_v215 : vec (a := 1000) (X2 m c (Proc.devRef .tc main_v215)) = ranked (values (fun b => m (c, b))) (flags (fun b => m (c, b))) := by
  funext j
  refine (tail_v215 _ j).trans ?_
  rw [X1_v214, X1_of m c main_values (by decide), after_loop_keep m c main_values (by decide) (by decide), ranked]
  rw [show scal (X1 m c (Proc.devRef .tc main_cst_37)) = _ from tail_cst _]
  cases flags (fun b => m (c, b)) j <;> rfl

/-- The candidate the reference puts at place `n` of its result. -/
def best : Fin 100 → Fin 1000 := picked (values (fun b => m (c, b))) (flags (fun b => m (c, b)))

theorem result_box (n : Fin 100) (q : Fin 4) : mat (a := 100) (b := 5) (result m c) n q.castSucc
    = mat (a := 1000) (b := 4) (W15 (fun b => m (c, b)) (Proc.devRef .tc main_v135)) (best m c n) q := by
  rw [result_eq, tail_cat, cat_box]
  refine (tail_v222 _ n q).trans ?_
  rw [X2_v215, X2_of m c main_v135 (by decide), X1_of m c main_v135 (by decide), after_loop_keep m c main_v135 (by decide) (by decide)]
  rfl
theorem result_score (n : Fin 100) (q : Fin 5) (hq : q.val = 4) : mat (a := 100) (b := 5) (result m c) n q
    = vec (a := 1000) (W15 (fun b => m (c, b)) (Proc.devRef .tc main_v142)) (best m c n)
      * FloatOps.uitofp (F := Ideal) .f32 (BitVec.ofBool (flags (fun b => m (c, b)) (best m c n))) := by
  rw [result_eq, tail_cat, cat_score _ _ _ _ hq]
  refine (tail_v239 _ n).trans ?_
  rw [X2_v215, X2_of m c main_v142 (by decide), X1_of m c main_v142 (by decide), after_loop_keep m c main_v142 (by decide) (by decide),
    X2_of m c main_v214 (by decide), X1_v214]
  rfl

end Cert.Proof.Reference
-- ==== Proof.Value.Same.lean ====
/-
  The kernel's result is the reference's, at equal arguments: the same pairs are ranked by the same scores, carry the same boxes, and are
  kept or suppressed alike.
-/
module

public import proofs.«01_k».proof.Proof.Value.KerChosen
public import proofs.«01_k».proof.Proof.Value.RefTail

@[expose] public section

set_option maxRecDepth 16384

noncomputable section

namespace Cert.Proof.Same

open Idealize.ShloMosaic Idealize.ShloMosaic.TcCoe Idealize.ShloMosaic.StableHlo
open Cert.Proof.Value
open Cert.Proof.Reference (row cls)

theorem flag_pos (v : Fin 1000 → EReal) (b : Fin 1000 → Fin 4 → EReal) (n : Fin 1000) (h : flag v b n = true) : 0 < v n := by
  unfold flag at h
  exact of_decide_eq_true (Bool.and_eq_true_iff.mp h).2
theorem flag_word (f : Bool) : FloatOps.uitofp (F := Ideal) .f32 (BitVec.ofBool f) = if f then (1 : EReal) else 0 := by
  show ((((BitVec.ofBool f).toNat : ℕ) : ℝ) : EReal) = _
  cases f <;> simp
/-- A flagged candidate's score is its probability; an unflagged one's is cut to 0 on both sides. -/
theorem cut_mul (v p : EReal) (f : Bool) (h : f = true → v = p) :
    v * FloatOps.uitofp (F := Ideal) .f32 (BitVec.ofBool f) = p * FloatOps.uitofp (F := Ideal) .f32 (BitVec.ofBool f) := by
  rw [flag_word]
  cases f with
  | true => rw [h rfl]
  | false => exact (mul_zero v).trans (mul_zero p).symm

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's buffers at a core, as launched. -/
abbrev start : Valuation Cert.ReferenceIdeal.τ Cert.ReferenceIdeal.sig (Elt Ideal) := fun b => m' (c, b)

section
variable (hz : Reference.logits (start m' c) = KernelIdeal.logits c m) (hd : Reference.deltas (start m' c) = KernelIdeal.deltas c m)
  (hp : Reference.props (start m' c) = KernelIdeal.props c m)
include hz

theorem scores_same : vec (a := 90000) (Reference.W14 (start m' c) (Proc.devRef .tc Cert.ReferenceIdeal.main_v128)) = KernelIdeal.scores m c := by
  funext i
  rw [Reference.W14_v128, hz]
  rfl
theorem pair_same (n : Fin 1000) : Reference.chosen (Reference.W14 (start m' c)) n = KernelIdeal.pair m c n := by
  unfold Reference.chosen KernelIdeal.pair
  rw [scores_same m m' c hz]
theorem values_same : Reference.values (start m' c) = KernelIdeal.kValues m c := by
  funext n
  rw [KernelIdeal.kValues_eq, ← scores_same m m' c hz, ← pair_same m m' c hz]
  exact Reference.top_values (Reference.W14 (start m' c)) n
theorem prob_same (n : Fin 1000) : vec (a := 1000) (Reference.W15 (start m' c) (Proc.devRef .tc Cert.ReferenceIdeal.main_v142)) n
    = prob (KernelIdeal.logits c m (row (KernelIdeal.pair m c n))) (cls (KernelIdeal.pair m c n)) := by
  refine (Reference.top_v142 (Reference.W14 (start m' c)) n).trans ?_
  rw [Reference.W14_v118, pair_same m m' c hz, hz]

include hd hp
theorem boxes_same : mat (a := 1000) (b := 4) (Reference.W15 (start m' c) (Proc.devRef .tc Cert.ReferenceIdeal.main_v135)) = KernelIdeal.kBoxes m c := by
  funext n q
  refine (Reference.top_v135 (Reference.W14 (start m' c)) n q).trans ?_
  rw [Reference.W14_v119, pair_same m m' c hz, hd, hp, KernelIdeal.kBoxes_eq]
theorem shifted_same : Reference.shifted (start m' c) = KernelIdeal.kShifted m c := by
  funext n q
  refine (Reference.top_v157 (Reference.W14 (start m' c)) n q).trans ?_
  rw [Reference.top_v149, show Reference.words (a := 90000) (Reference.W14 (start m' c) (Proc.devRef .tc Cert.ReferenceIdeal.main_v125)) _ = _ from
    Reference.W14_v125 (start m' c) _, pair_same m m' c hz, KernelIdeal.kShifted_eq, ← boxes_same m m' c hz hd hp]
  rfl
theorem flags_same : Reference.flags (start m' c) = KernelIdeal.kFlags m c := by
  unfold Reference.flags KernelIdeal.kFlags
  rw [values_same m m' c hz, shifted_same m m' c hz hd hp]
theorem best_same : Reference.best m' c = KernelIdeal.kBest m c := by
  unfold Reference.best KernelIdeal.kBest
  rw [values_same m m' c hz, flags_same m m' c hz hd hp]

theorem cut_same (n : Fin 1000) :
    KernelIdeal.kValues m c n * FloatOps.uitofp (F := Ideal) .f32 (BitVec.ofBool (KernelIdeal.kFlags m c n))
      = prob (KernelIdeal.logits c m (row (KernelIdeal.pair m c n))) (cls (KernelIdeal.pair m c n))
        * FloatOps.uitofp (F := Ideal) .f32 (BitVec.ofBool (KernelIdeal.kFlags m c n)) := by
  refine cut_mul _ _ _ fun hf => ?_
  have hv : 0 < KernelIdeal.kValues m c n := flag_pos (KernelIdeal.kValues m c) (KernelIdeal.kShifted m c) n hf
  rw [KernelIdeal.kValues_eq] at hv ⊢
  exact KernelIdeal.score_pos _ hv

theorem result_same : Cert.KernelIdeal.Gen.V17 m (KernelIdeal.outs m) c (Proc.devRef .tc Cert.KernelIdeal.main_v106) = Reference.result m' c := by
  have h : ∀ (n : Fin 100) (q : Fin 5),
      mat (a := 100) (b := 5) (Cert.KernelIdeal.Gen.V17 m (KernelIdeal.outs m) c (Proc.devRef .tc Cert.KernelIdeal.main_v106)) n q
        = mat (a := 100) (b := 5) (Reference.result m' c) n q := fun n q => by
    by_cases hq : q.val = 4
    · rw [KernelIdeal.kernel_score m c n q hq, Reference.result_score m' c n q hq, best_same m m' c hz hd hp]
      refine (cut_same m m' c hz hd hp _).trans ?_
      rw [← prob_same m m' c hz, ← flags_same m m' c hz hd hp]
    · obtain ⟨p, rfl⟩ : ∃ p : Fin 4, p.castSucc = q := ⟨⟨q.val, by omega⟩, rfl⟩
      rw [KernelIdeal.kernel_box m c n p, Reference.result_box m' c n p, best_same m m' c hz hd hp, boxes_same m m' c hz hd hp]
  funext i
  have hi : i = ix2 (i 0) (i 1) := eq_ix2 i
  rw [hi]
  exact h (i 0) (i 1)
end

/-- The arguments as the reference's buffers and as the kernel's hold them. -/
theorem result_eq
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3))
    (h4 : m' (c, Proc.devRef .tc Cert.ReferenceIdeal.main_arg4) = m (c, Proc.devRef .tc Cert.KernelIdeal.main_arg4))
    (h5 : m' (c, Proc.devRef .tc Cert.ReferenceIdeal.main_arg5) = m (c, Proc.devRef .tc Cert.KernelIdeal.main_arg5))
    (h6 : m' (c, Proc.devRef .tc Cert.ReferenceIdeal.main_arg6) = m (c, Proc.devRef .tc Cert.KernelIdeal.main_arg6))
    (h7 : m' (c, Proc.devRef .tc Cert.ReferenceIdeal.main_arg7) = m (c, Proc.devRef .tc Cert.KernelIdeal.main_arg7))
    (h8 : m' (c, Proc.devRef .tc Cert.ReferenceIdeal.main_arg8) = m (c, Proc.devRef .tc Cert.KernelIdeal.main_arg8))
    (h9 : m' (c, Proc.devRef .tc Cert.ReferenceIdeal.main_arg9) = m (c, Proc.devRef .tc Cert.KernelIdeal.main_arg9)) :
    Cert.KernelIdeal.Gen.V17 m (KernelIdeal.outs m) c (Proc.devRef .tc Cert.KernelIdeal.main_v106) = Reference.result m' c := by
  have e0 : Reference.feats (start m' c) = KernelIdeal.feats c m := congrArg feat h0
  have e1 : Reference.props (start m' c) = KernelIdeal.props c m := congrArg (mat (a := 1000) (b := 4)) h1
  have e2 : Reference.w1 (start m' c) = KernelIdeal.w1 c m := congrArg (mat (a := 1024) (b := 12544)) h2
  have e3 : Reference.b1 (start m' c) = KernelIdeal.b1 c m := congrArg (vec (a := 1024)) h3
  have e4 : Reference.w2 (start m' c) = KernelIdeal.w2 c m := congrArg (mat (a := 1024) (b := 1024)) h4
  have e5 : Reference.b2 (start m' c) = KernelIdeal.b2 c m := congrArg (vec (a := 1024)) h5
  have e6 : Reference.wc (start m' c) = KernelIdeal.wc c m := congrArg (mat (a := 91) (b := 1024)) h6
  have e7 : Reference.bc (start m' c) = KernelIdeal.bc c m := congrArg (vec (a := 91)) h7
  have e8 : Reference.wr (start m' c) = KernelIdeal.wr c m := congrArg (mat (a := 364) (b := 1024)) h8
  have e9 : Reference.br (start m' c) = KernelIdeal.br c m := congrArg (vec (a := 364)) h9
  have ea : Reference.act (start m' c) = KernelIdeal.act c m := by
    unfold Reference.act KernelIdeal.act
    rw [e0, e2, e3, e4, e5]
  have ez : Reference.logits (start m' c) = KernelIdeal.logits c m := by
    unfold Reference.logits KernelIdeal.logits
    rw [ea, e6, e7]
  have ed : Reference.deltas (start m' c) = KernelIdeal.deltas c m := by
    unfold Reference.deltas KernelIdeal.deltas
    rw [ea, e8, e9]
  exact result_same m m' c ez ed e1

end Cert.Proof.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Reference.Run
public import proofs.«01_k».proof.Proof.Value.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => ?_, fun m ρ _ => ?_, fun m ρ _ => ?_, ?_, fun m ρ m' ρ' _ hargs => ?_⟩
  · exact (θ_run _ _ _).mono (fun _ h => ⟨fun c => (h.1 c).2, h.2⟩) (Kernel.run m ρ)
  · exact (θ_run _ _ _).mono (fun _ h => ⟨fun c => (h.1 c).2, h.2⟩) (KernelIdeal.run m ρ)
  · exact (θ_run _ _ _).mono (fun _ h => ⟨fun c => (h.1 c).2, h.2⟩) (Reference.run m ρ)
  · exact IdealRules.named_const.statement Cert.KernelIdeal.κ "mask" .f32 0xF149F2CA#32 ⊥ rfl
  · refine ⟨fun c => Reference.result m' c, (θ_run _ _ _).mono (fun _ h c => ?_) (KernelIdeal.run m ρ),
      (θ_run _ _ _).mono (fun _ h => h.1) (Reference.run m' ρ')⟩
    obtain ⟨h0, h1, h2, h3, h4, h5, h6, h7, h8, h9⟩ := hargs c
    exact ⟨((h.1 c).1).trans (Same.result_eq m m' c h0 h1 h2 h3 h4 h5 h6 h7 h8 h9), (h.1 c).2⟩⟩

end Cert.Proof

end
